-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_1)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_1) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x8 : Shape := ⟨2, ![1024, 8]⟩
abbrev S8 : Shape := ⟨1, ![8]⟩
abbrev S8x512x1024 : Shape := ⟨3, ![8, 512, 1024]⟩
abbrev S8x1024x512 : Shape := ⟨3, ![8, 1024, 512]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x8x1024 : Shape := ⟨3, ![2048, 8, 1024]⟩
abbrev S512x1024 : Shape := ⟨2, ![512, 1024]⟩
abbrev S1x512x1024 : Shape := ⟨3, ![1, 512, 1024]⟩
abbrev S1x1024x512 : Shape := ⟨3, ![1, 1024, 512]⟩
abbrev S512x8 : Shape := ⟨2, ![512, 8]⟩
abbrev S512x8x256 : Shape := ⟨3, ![512, 8, 256]⟩
abbrev S4x8x512x256 : Shape := ⟨4, ![4, 8, 512, 256]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x1x512x256 : Shape := ⟨4, ![1, 1, 512, 256]⟩
abbrev S1x8x512x256 : Shape := ⟨4, ![1, 8, 512, 256]⟩
abbrev S8x512x256 : Shape := ⟨3, ![8, 512, 256]⟩

abbrev nBuf : Space → Nat
  | .hbm => 31
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S8x512x1024, .f32⟩
  | .hbm, ⟨4, _⟩ => ⟨S8x1024x512, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x1, .f32⟩
  | .hbm, ⟨10, _⟩ => ⟨S1024x8, .f32⟩
  | .hbm, ⟨11, _⟩ => ⟨S_, .f32⟩
  | .hbm, ⟨12, _⟩ => ⟨S8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x8, .f32⟩
  | .hbm, ⟨22, _⟩ => ⟨S1x8, .f32⟩
  | .hbm, ⟨23, _⟩ => ⟨S1024x8, .f32⟩
  | .hbm, ⟨24, _⟩ => ⟨S1024x8, .f32⟩
  | .hbm, ⟨25, _⟩ => ⟨S2048x8, .f32⟩
  | .hbm, ⟨26, _⟩ => ⟨S1x8, .f32⟩
  | .hbm, ⟨27, _⟩ => ⟨S2048x8x1024, .f32⟩
  | .hbm, ⟨28, _⟩ => ⟨S2048x1024, .f32⟩
  | .hbm, ⟨29, _⟩ => ⟨S2048x8, .f32⟩
  | .hbm, ⟨30, _⟩ => ⟨S2048x8, .f32⟩
  | .local _ .vmem, ⟨0, _⟩ => ⟨S512x1024, .f32⟩
  | .local _ .vmem, ⟨1, _⟩ => ⟨S512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x512, .f32⟩
  | .local _ .vmem, ⟨5, _⟩ => ⟨S1x1024x512, .f32⟩
  | .local _ .vmem, ⟨6, _⟩ => ⟨S512x8, .f32⟩
  | .local _ .vmem, ⟨7, _⟩ => ⟨S512x8, .f32⟩
  | .local _ .vmem, ⟨8, _⟩ => ⟨S1x8, .f32⟩
  | .local _ .vmem, ⟨9, _⟩ => ⟨S512x8x256, .f32⟩
  | .local _ .vmem, ⟨10, _⟩ => ⟨S512x8x256, .f32⟩
  | .local _ .vmem, ⟨11, _⟩ => ⟨S512x1024, .f32⟩
  | .local _ .vmem, ⟨12, _⟩ => ⟨S512x1024, .f32⟩
  | .local _ .vmem, ⟨13, _⟩ => ⟨S512x8, .f32⟩
  | .local _ .vmem, ⟨14, _⟩ => ⟨S512x8, .f32⟩
  | .local _ .vmem, ⟨15, _⟩ => ⟨S512x8, .f32⟩
  | .local _ .vmem, ⟨16, _⟩ => ⟨S512x8, .f32⟩
  | .local _ .vmem, ⟨17, _⟩ => ⟨S4x8x512x256, .bf16⟩
  | .local _ .vmem, ⟨18, _⟩ => ⟨S8x512x1024, .bf16⟩
  | .local _ .vmem, ⟨19, _⟩ => ⟨S8x1024x512, .bf16⟩
  | .local _ .vmem, ⟨20, _⟩ => ⟨S512x1024, .bf16⟩
  | .local _ .vmem, ⟨21, _⟩ => ⟨S512x1024, .f32⟩
  | .local _ .vmem, ⟨22, _⟩ => ⟨S512x8, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let arg0 : BitVec 32 := BitVec.ofNat 32 (i 0).val
  let c0_i32 : BitVec 32 := 0#32
  let v1 : BitVec 1 := Scalar.cmpi .eq arg0 c0_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 3 → Nat :=
  let arg1 : BitVec 32 := BitVec.ofNat 32 (i 1).val
  let v19 : Index := Scalar.indexCast arg1
  let c0_10 : Index := 0#32
  let c0_11 : Index := 0#32
  ![v19.toNat, 0, 0]
def k0_off2 (i : grid0.Coords) : Fin 3 → Nat :=
  let arg1 : BitVec 32 := BitVec.ofNat 32 (i 1).val
  let v26 : Index := Scalar.indexCast arg1
  let c0_15 : Index := 0#32
  let c0_16 : Index := 0#32
  ![v26.toNat, 0, 0]
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off3 (i : grid0.Coords) : Fin 3 → Nat :=
  let arg1 : BitVec 32 := BitVec.ofNat 32 (i 1).val
  let v172 : Index := Scalar.indexCast arg1
  let c0_36 : Index := 0#32
  let c0_37 : Index := 0#32
  ![v172.toNat, 0, 0]
def k0_off4 (i : grid0.Coords) : Fin 3 → Nat :=
  let arg1 : BitVec 32 := BitVec.ofNat 32 (i 1).val
  let v185 : Index := Scalar.indexCast arg1
  let c0_42 : Index := 0#32
  let c0_43 : Index := 0#32
  ![v185.toNat, 0, 0]
def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c8_i32_4 : BitVec 32 := 8#32
  let v9 : BitVec 1 := Scalar.cmpi .slt arg1 c8_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_off5 (i : grid0.Coords) : Fin 4 → Nat :=
  let c0_14 : Index := 0#32
  let arg1 : BitVec 32 := BitVec.ofNat 32 (i 1).val
  let c1_i32 : BitVec 32 := 1#32
  let v16 : BitVec 32 := Scalar.subi arg1 c1_i32
  let v38 : Index := Scalar.indexCast v16
  let c0_15 : Index := 0#32
  let c0_16 : Index := 0#32
  ![0, v38.toNat, 0, 0]
def k0_off6 (i : grid0.Coords) : Fin 4 → Nat :=
  let c1 : Index := 1#32
  let arg1 : BitVec 32 := BitVec.ofNat 32 (i 1).val
  let c1_i32 : BitVec 32 := 1#32
  let v16 : BitVec 32 := Scalar.subi arg1 c1_i32
  let v44 : Index := Scalar.indexCast v16
  let c0_17 : Index := 0#32
  let c0_18 : Index := 0#32
  ![1, v44.toNat, 0, 0]
def k0_off7 (i : grid0.Coords) : Fin 4 → Nat :=
  let c2 : Index := 2#32
  let arg1 : BitVec 32 := BitVec.ofNat 32 (i 1).val
  let c1_i32 : BitVec 32 := 1#32
  let v16 : BitVec 32 := Scalar.subi arg1 c1_i32
  let v50 : Index := Scalar.indexCast v16
  let c0_19 : Index := 0#32
  let c0_20 : Index := 0#32
  ![2, v50.toNat, 0, 0]
def k0_off8 (i : grid0.Coords) : Fin 4 → Nat :=
  let c3 : Index := 3#32
  let arg1 : BitVec 32 := BitVec.ofNat 32 (i 1).val
  let c1_i32 : BitVec 32 := 1#32
  let v16 : BitVec 32 := Scalar.subi arg1 c1_i32
  let v56 : Index := Scalar.indexCast v16
  let c0_21 : Index := 0#32
  let c0_22 : Index := 0#32
  ![3, v56.toNat, 0, 0]
def k0_off9 (i : grid0.Coords) : Fin 3 → Nat :=
  let arg1 : BitVec 32 := BitVec.ofNat 32 (i 1).val
  let v67 : Index := Scalar.indexCast arg1
  let c0_29 : Index := 0#32
  let c0_30 : Index := 0#32
  ![v67.toNat, 0, 0]
def k0_off10 (i : grid0.Coords) : Fin 3 → Nat :=
  let arg1 : BitVec 32 := BitVec.ofNat 32 (i 1).val
  let v80 : Index := Scalar.indexCast arg1
  let c0_35 : Index := 0#32
  let c0_36 : Index := 0#32
  ![v80.toNat, 0, 0]
def k0_cond4 (i : grid0.Coords) : BitVec 1 :=
  let arg1 : BitVec 32 := BitVec.ofNat 32 (i 1).val
  let c8_i32_6 : BitVec 32 := 8#32
  let v13 : BitVec 1 := Scalar.cmpi .sge arg1 c8_i32_6
  let v14 : BitVec 32 := Scalar.extui v13
  let c0_i32_7 : BitVec 32 := 0#32
  let v15 : BitVec 1 := Scalar.cmpi .ne v14 c0_i32_7
  v15

def k0_off11 (i : grid0.Coords) : Fin 4 → Nat :=
  let arg1 : BitVec 32 := BitVec.ofNat 32 (i 1).val
  let c8_i32_10 : BitVec 32 := 8#32
  let v19 : BitVec 32 := Scalar.subi arg1 c8_i32_10
  let v20 : Index := Scalar.indexCast v19
  let c0 : Index := 0#32
  let c0_11 : Index := 0#32
  let c0_12 : Index := 0#32
  ![v20.toNat, 0, 0, 0]
def k0_cond5 (i : grid0.Coords) : BitVec 1 :=
  let arg1 : BitVec 32 := BitVec.ofNat 32 (i 1).val
  let c8_i32_8 : BitVec 32 := 8#32
  let v16 : BitVec 1 := Scalar.cmpi .eq arg1 c8_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.minsi arg1 c7_i32
  let c7_i32_0 : BitVec 32 := 7#32
  let v2 : BitVec 32 := Scalar.select v0 v1 c7_i32_0
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.minsi arg1 c7_i32
  let c7_i32_0 : BitVec 32 := 7#32
  let v2 : BitVec 32 := Scalar.select v0 v1 c7_i32_0
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x1024 : Shape := ⟨2, ![2048, 1024]⟩
abbrev S1024x8 : Shape := ⟨2, ![1024, 8]⟩
abbrev S8 : Shape := ⟨1, ![8]⟩
abbrev S8x512x1024 : Shape := ⟨3, ![8, 512, 1024]⟩
abbrev S8x1024x512 : Shape := ⟨3, ![8, 1024, 512]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x4 : Shape := ⟨2, ![2048, 4]⟩
abbrev S2048x4x1 : Shape := ⟨3, ![2048, 4, 1]⟩
abbrev S2048x4x2 : Shape := ⟨3, ![2048, 4, 2]⟩
abbrev S2048x8x512 : Shape := ⟨3, ![2048, 8, 512]⟩
abbrev S8x1024x2048 : Shape := ⟨3, ![8, 1024, 2048]⟩
abbrev S2048x8x1024 : Shape := ⟨3, ![2048, 8, 1024]⟩
abbrev S2048x8x1 : Shape := ⟨3, ![2048, 8, 1]⟩

abbrev nBuf : Space → Nat
  | .hbm => 115
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S8x512x1024, .f32⟩
  | .hbm, ⟨4, _⟩ => ⟨S8x1024x512, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1024x8, .f32⟩
  | .hbm, ⟨16, _⟩ => ⟨S_, .f32⟩
  | .hbm, ⟨17, _⟩ => ⟨S8, .f32⟩
  | .hbm, ⟨18, _⟩ => ⟨S1x8, .f32⟩
  | .hbm, ⟨19, _⟩ => ⟨S1x8, .f32⟩
  | .hbm, ⟨20, _⟩ => ⟨S_, .f32⟩
  | .hbm, ⟨21, _⟩ => ⟨S1x8, .f32⟩
  | .hbm, ⟨22, _⟩ => ⟨S1x8, .f32⟩
  | .hbm, ⟨23, _⟩ => ⟨S1024x8, .f32⟩
  | .hbm, ⟨24, _⟩ => ⟨S1024x8, .f32⟩
  | .hbm, ⟨25, _⟩ => ⟨S2048x8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S1x8, .f32⟩
  | .hbm, ⟨35, _⟩ => ⟨S2048x8, .f32⟩
  | .hbm, ⟨36, _⟩ => ⟨S2048x8, .f32⟩
  | .hbm, ⟨37, _⟩ => ⟨S_, .f32⟩
  | .hbm, ⟨38, _⟩ => ⟨S2048x8, .f32⟩
  | .hbm, ⟨39, _⟩ => ⟨S2048x8, .f32⟩
  | .hbm, ⟨40, _⟩ => ⟨S_, .f32⟩
  | .hbm, ⟨41, _⟩ => ⟨S2048x8, .f32⟩
  | .hbm, ⟨42, _⟩ => ⟨S2048x8, .i1⟩
  | .hbm, ⟨43, _⟩ => ⟨S2048x8, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .i1⟩
  | .hbm, ⟨49, _⟩ => ⟨S2048x4, .f32⟩
  | .hbm, ⟨50, _⟩ => ⟨S2048x4, .i32⟩
  | .hbm, ⟨51, _⟩ => ⟨S_, .f32⟩
  | .hbm, ⟨52, _⟩ => ⟨S2048x8, .f32⟩
  | .hbm, ⟨53, _⟩ => ⟨S2048, .i32⟩
  | .hbm, ⟨54, _⟩ => ⟨S2048x1, .i32⟩
  | .hbm, ⟨55, _⟩ => ⟨S_, .i32⟩
  | .hbm, ⟨56, _⟩ => ⟨S2048x1, .i32⟩
  | .hbm, ⟨57, _⟩ => ⟨S2048x1, .i1⟩
  | .hbm, ⟨58, _⟩ => ⟨S_, .i32⟩
  | .hbm, ⟨59, _⟩ => ⟨S2048x1, .i32⟩
  | .hbm, ⟨60, _⟩ => ⟨S2048x1, .i32⟩
  | .hbm, ⟨61, _⟩ => ⟨S2048x1, .i32⟩
  | .hbm, ⟨62, _⟩ => ⟨S_, .i32⟩
  | .hbm, ⟨63, _⟩ => ⟨S2048x4, .i32⟩
  | .hbm, ⟨64, _⟩ => ⟨S2048x4, .i1⟩
  | .hbm, ⟨65, _⟩ => ⟨S_, .i32⟩
  | .hbm, ⟨66, _⟩ => ⟨S2048x4, .i32⟩
  | .hbm, ⟨67, _⟩ => ⟨S2048x4, .i32⟩
  | .hbm, ⟨68, _⟩ => ⟨S2048x4, .i32⟩
  | .hbm, ⟨69, _⟩ => ⟨S2048x4, .i32⟩
  | .hbm, ⟨70, _⟩ => ⟨S2048x4x1, .i32⟩
  | .hbm, ⟨71, _⟩ => ⟨S2048x4x1, .i32⟩
  | .hbm, ⟨72, _⟩ => ⟨S2048x4x2, .i32⟩
  | .hbm, ⟨73, _⟩ => ⟨S_, .f32⟩
  | .hbm, ⟨74, _⟩ => ⟨S2048x4, .f32⟩
  | .hbm, ⟨75, _⟩ => ⟨S2048x8, .f32⟩
  | .hbm, ⟨76, _⟩ => ⟨S2048x1, .i1⟩
  | .hbm, ⟨77, _⟩ => ⟨S2048x8, .i1⟩
  | .hbm, ⟨78, _⟩ => ⟨S2048x8, .f32⟩
  | .hbm, ⟨79, _⟩ => ⟨S_, .f32⟩
  | .hbm, ⟨80, _⟩ => ⟨S2048x8, .f32⟩
  | .hbm, ⟨81, _⟩ => ⟨S2048x8, .i1⟩
  | .hbm, ⟨82, _⟩ => ⟨S_, .f32⟩
  | .hbm, ⟨83, _⟩ => ⟨S2048x8, .f32⟩
  | .hbm, ⟨84, _⟩ => ⟨S2048x8, .f32⟩
  | .hbm, ⟨85, _⟩ => ⟨S_, .f32⟩
  | .hbm, ⟨86, _⟩ => ⟨S2048, .f32⟩
  | .hbm, ⟨87, _⟩ => ⟨S_, .f32⟩
  | .hbm, ⟨88, _⟩ => ⟨S2048, .f32⟩
  | .hbm, ⟨89, _⟩ => ⟨S2048, .f32⟩
  | .hbm, ⟨90, _⟩ => ⟨S2048x1, .f32⟩
  | .hbm, ⟨91, _⟩ => ⟨S2048x8, .f32⟩
  | .hbm, ⟨92, _⟩ => ⟨S2048x8, .f32⟩
  | .hbm, ⟨93, _⟩ => ⟨S2048x8, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x8, .f32⟩
  | .hbm, ⟨98, _⟩ => ⟨S2048x8, .f32⟩
  | .hbm, ⟨99, _⟩ => ⟨S2048x8x512, .f32⟩
  | .hbm, ⟨100, _⟩ => ⟨S_, .f32⟩
  | .hbm, ⟨101, _⟩ => ⟨S2048x8x512, .f32⟩
  | .hbm, ⟨102, _⟩ => ⟨S2048x8x512, .f32⟩
  | .hbm, ⟨103, _⟩ => ⟨S2048x8x512, .f32⟩
  | .hbm, ⟨104, _⟩ => ⟨S_, .f32⟩
  | .hbm, ⟨105, _⟩ => ⟨S2048x8x512, .f32⟩
  | .hbm, ⟨106, _⟩ => ⟨S2048x8x512, .f32⟩
  | .hbm, ⟨107, _⟩ => ⟨S2048x8x512, .f32⟩
  | .hbm, ⟨108, _⟩ => ⟨S2048x8x512, .f32⟩
  | .hbm, ⟨109, _⟩ => ⟨S8x1024x2048, .f32⟩
  | .hbm, ⟨110, _⟩ => ⟨S2048x8x1024, .f32⟩
  | .hbm, ⟨111, _⟩ => ⟨S2048x8x1, .f32⟩
  | .hbm, ⟨112, _⟩ => ⟨S2048x8x1024, .f32⟩
  | .hbm, ⟨113, _⟩ => ⟨S2048x8x1024, .f32⟩
  | .hbm, ⟨114, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_values : Ref sig .tc := ⟨.hbm, 49, rfl⟩
abbrev main_indices : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_c_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call3_v0 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_call4_v0 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_cst_14 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_15 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_16 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_17 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩

abbrev nD : Nat := 1
abbrev τ : Topo := Topo.v7x

variable {F : FTy → Type} [FloatOps F]
-- ==== Proof.K.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- At the step after the last expert the gathered chunk is the first one. -/
theorem off11_turn : ∀ i : grid0.Coords, k0_cond5 i = 1#1 → k0_off11 i = ![0, 0, 0, 0] := by decide +kernel

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39

/-- What part one of the routing hands on, read off a block of logits and the gates. -/
def routeV110 (x5 : FVec F S512x8 .f32) : FVec F S512x8 .f32 :=
  k0_pay22 (k0_pay12 x5) (iota .tc S1x8 32 [1] iota_S1x8_d1_w32) (k0_pay17 x5) (k0_pay19 x5) (k0_pay20 x5) k0_pay21
/-- The router's 0/1 mask of a block of rows, from the logits and the gates. -/
def routeMask (x5 : FVec F S512x8 .f32) (x6 : FVec F S1x8 .f32) : FVec F S512x8 .f32 :=
  k0_pay24 (k0_pay12 x5) (k0_pay15 x5 x6) (k0_pay16 x5 x6) (iota .tc S1x8 32 [1] iota_S1x8_d1_w32) (routeV110 x5)
    (k0_pay23 (k0_pay12 x5) (iota .tc S1x8 32 [1] iota_S1x8_d1_w32))
/-- The router's weights of a block of rows. -/
def routeWeight (x5 : FVec F S512x8 .f32) (x6 : FVec F S1x8 .f32) : FVec F S512x8 .f32 :=
  k0_pay25 (k0_pay12 x5) (k0_pay14 x5 x6) (k0_pay15 x5 x6) (k0_pay16 x5 x6) (iota .tc S1x8 32 [1] iota_S1x8_d1_w32) (routeV110 x5)
    (k0_pay23 (k0_pay12 x5) (iota .tc S1x8 32 [1] iota_S1x8_d1_w32))

/-- A load through the rectangle that the newest store went through reads that store's payload. -/
theorem readCov_same {sig : RefSig} {κ : Kind} {sp : Space} {s : Shape} {e : EltTy} {Val : EltTy → Type} [∀ e, Nonempty (Val e)]
    (v : View sig κ sp s e) {off size : Fin s.rank → ℕ} (inb inb' : ∀ a, off a + size a ≤ s.size a)
    (w : (Rect.unit off size inb).shape.Idx → Val e) (L : List (Σ r : Rect s, (r.shape.Idx → Val e))) :
    v.readCov (⟨Rect.unit off size inb, w⟩ :: L) (Rect.unit off size inb').toLoadRect = w := by
  show v.readAt Val (Rect.unit off size inb').toLoadRect (v.writes Val v.junk _) = w
  rw [View.readAt_unit v _ inb' rfl inb', View.read_writes_cons_put v _ inb w L rfl, VecWindow.window_put_same]

variable (c : Dev nD) (i : grid0.Coords)
  (arg2 : Memref sig .tc .vmem S512x1024 .f32) (harg2 : arg2.IsWhole)
  (arg3 : Memref sig .tc .vmem S1x512x1024 .f32) (harg3 : arg3.IsWhole)
  (arg4 : Memref sig .tc .vmem S1x1024x512 .f32) (harg4 : arg4.IsWhole)
  (arg5 : Memref sig .tc .vmem S512x8 .f32) (harg5 : arg5.IsWhole)
  (arg6 : Memref sig .tc .vmem S1x8 .f32) (harg6 : arg6.IsWhole)
  (arg7 : Memref sig .tc .vmem S512x8x256 .f32) (harg7 : arg7.IsWhole)
  (arg8 : Memref sig .tc .vmem S512x1024 .f32) (harg8 : arg8.IsWhole)
  (arg9 : Memref sig .tc .vmem S512x8 .f32) (harg9 : arg9.IsWhole)
  (arg10 : Memref sig .tc .vmem S512x8 .f32) (harg10 : arg10.IsWhole)
  (arg11 : Memref sig .tc .vmem S4x8x512x256 .bf16) (harg11 : arg11.IsWhole)
  (arg12 : Memref sig .tc .vmem S8x512x1024 .bf16) (harg12 : arg12.IsWhole)
  (arg13 : Memref sig .tc .vmem S8x1024x512 .bf16) (harg13 : arg13.IsWhole)
  (arg14 : Memref sig .tc .vmem S512x1024 .bf16) (harg14 : arg14.IsWhole)
  (arg15 : Memref sig .tc .vmem S512x1024 .f32) (harg15 : arg15.IsWhole)
  (arg16 : Memref sig .tc .vmem S512x8 .f32) (harg16 : arg16.IsWhole)

/-- The first step of the first row block: expert 0's weights are cast into their slabs, the routing of the block is computed, the input is cast, and the first expert's output is put aside. -/
theorem run_first_cast (hc1 : k0_cond1 i = 1#1) (hc2 : k0_cond2 i = 1#1) (hc3 : ¬ k0_cond3 i = 1#1) (hc4 : ¬ k0_cond4 i = 1#1)
    (d2 : S512x1024.Idx → Elt F .f32) (d3 : S1x512x1024.Idx → Elt F .f32) (d4 : S1x1024x512.Idx → Elt F .f32) (d5 : S512x8.Idx → Elt F .f32) (d6 : S1x8.Idx → Elt F .f32) (d8 : S512x1024.Idx → Elt F .f32) (d9 : S512x8.Idx → Elt F .f32) (d10 : S512x8.Idx → Elt F .f32) (d12 : S8x512x1024.Idx → Elt F .bf16) (d13 : S8x1024x512.Idx → Elt F .bf16) (d14 : S512x1024.Idx → Elt F .bf16) (d15 : S512x1024.Idx → Elt F .f32) (d16 : S512x8.Idx → Elt F .f32) (K : PUnit → sProp 𝕄) :
    iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg8 fullShare d8
        ∗ owns (c : Thread nD τ) arg9 fullShare d9
        ∗ owns (c : Thread nD τ) arg10 fullShare d10
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ (iprop(owns (c : Thread nD τ) arg2 fullShare d2
          ∗ owns (c : Thread nD τ) arg3 fullShare d3
          ∗ owns (c : Thread nD τ) arg4 fullShare d4
          ∗ owns (c : Thread nD τ) arg5 fullShare d5
          ∗ owns (c : Thread nD τ) arg6 fullShare d6
          ∗ owns (c : Thread nD τ) arg8 fullShare (k0_pay4 (F := F))
          ∗ owns (c : Thread nD τ) arg9 fullShare (k0_pay13 d5 d6)
          ∗ owns (c : Thread nD τ) arg10 fullShare (routeMask d5 d6)
          ∗ owns (c : Thread nD τ) arg12 fullShare (VecWindow.put d12 (k0_off1 i) S1x512x1024.size (k0_pay1 d3))
          ∗ owns (c : Thread nD τ) arg13 fullShare (VecWindow.put d13 (k0_off2 i) S1x1024x512.size (k0_pay2 d4))
          ∗ owns (c : Thread nD τ) arg14 fullShare (k0_pay3 d2)
          ∗ owns (c : Thread nD τ) arg15 fullShare (k0_pay5 (k0_pay3 d2) (k0_pay1 d3) (k0_pay2 d4))
          ∗ owns (c : Thread nD τ) arg16 fullShare (routeWeight d5 d6)) -∗ K ⟨⟩))
      ⊢ wp frame (wpE (defs₀ (F := F)) Variants.none c none) Set.univ
          (cc0__expert_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__expert_body_eq_skeleton]; unfold cc0__expert_body_skel
  simp only [k0_part1_eq_skeleton, k0_part2_eq_skeleton, k0_part3_eq_skeleton, k0_part4_eq_skeleton, k0_part5_eq_skeleton]
  unfold owns
  iintro ⟨⟨%f2, %e2, H2⟩, ⟨%f3, %e3, H3⟩, ⟨%f4, %e4, H4⟩, ⟨%f5, %e5, H5⟩, ⟨%f6, %e6, H6⟩, ⟨%f8, %e8, H8⟩, ⟨%f9, %e9, H9⟩, ⟨%f10, %e10, H10⟩, ⟨%f12, %e12, H12⟩, ⟨%f13, %e13, H13⟩, ⟨%f14, %e14, H14⟩, ⟨%f15, %e15, H15⟩, ⟨%f16, %e16, H16⟩, Hk⟩
  subst e2; subst e3; subst e4; subst e5; subst e6; subst e8; subst e9; subst e10; subst e12; subst e13; subst e14; subst e15; subst e16
  have l2 : View.readAt (Elt F) arg2.view (Rect.unit (s := S512x1024) ![0, 0] S512x1024.size inb_S512x1024_S512x1024_0_0).toLoadRect f2 = View.read (Elt F) arg2.view f2 := View.readAt_full arg2.view f2 _
  have l3 : View.readAt (Elt F) arg3.view (Rect.unit (s := S1x512x1024) ![0, 0, 0] S1x512x1024.size inb_S1x512x1024_S1x512x1024_0_0_0).toLoadRect f3 = View.read (Elt F) arg3.view f3 := View.readAt_full arg3.view f3 _
  have l4 : View.readAt (Elt F) arg4.view (Rect.unit (s := S1x1024x512) ![0, 0, 0] S1x1024x512.size inb_S1x1024x512_S1x1024x512_0_0_0).toLoadRect f4 = View.read (Elt F) arg4.view f4 := View.readAt_full arg4.view f4 _
  have l5 : View.readAt (Elt F) arg5.view (Rect.unit (s := S512x8) ![0, 0] S512x8.size inb_S512x8_S512x8_0_0).toLoadRect f5 = View.read (Elt F) arg5.view f5 := View.readAt_full arg5.view f5 _
  have l6 : View.readAt (Elt F) arg6.view (Rect.unit (s := S1x8) ![0, 0] S1x8.size inb_S1x8_S1x8_0_0).toLoadRect f6 = View.read (Elt F) arg6.view f6 := View.readAt_full arg6.view f6 _

  sl_exec (disch := first | sl_exact hc1 | sl_exact hc2 | sl_exact hc3 | sl_exact hc4)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); refine (View.read_writes_full (Val := Elt F) _ _ _ _ _).trans ?_; try rfl
  isplitl [H9]
  · iexists _; isplitr; swap; · iexact H9
    ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); refine (View.read_writes_full (Val := Elt F) _ _ _ _ _).trans ?_; try rw [← l5, ← l6]; try rfl
  isplitl [H10]
  · iexists _; isplitr; swap; · iexact H10
    ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); refine (View.read_writes_full (Val := Elt F) _ _ _ _ _).trans ?_; unfold routeMask routeV110; try rw [← l5, ← l6]; try rfl
  isplitl [H12]
  · iexists _; isplitr; swap; · iexact H12
    ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); rw [View.read_writes_cons_put (h := rfl), View.writes_nil]; try rw [← l3]; try rfl
  isplitl [H13]
  · iexists _; isplitr; swap; · iexact H13
    ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); rw [View.read_writes_cons_put (h := rfl), View.writes_nil]; try rw [← l4]; try rfl
  isplitl [H14]
  · iexists _; isplitr; swap; · iexact H14
    ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); refine (View.read_writes_full (Val := Elt F) _ _ _ _ _).trans ?_; try rw [← l2]; try rfl
  isplitl [H15]
  · iexists _; isplitr; swap; · iexact H15
    ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); refine (View.read_writes_full (Val := Elt F) _ _ _ _ _).trans ?_; try rw [← l2, ← l3, ← l4]; exact congr (congr (congrArg k0_pay5 (readCov_same _ _ _ _ _)) (readCov_same _ _ _ _ _)) (readCov_same _ _ _ _ _)
  iexists _; isplitr; swap; · iexact H16
  ipureintro; (repeat (first | delta run_first_cast.sl.H12_1 | delta run_first_cast.sl.H13_1 | delta run_first_cast.sl.H14_1 | delta run_first_cast.sl.r | delta run_first_cast.sl.r_1 | delta run_first_cast.sl.r_2 | delta run_first_cast.sl.r_3 | delta run_first_cast.sl.r_4 | delta run_first_cast.sl.r_5 | delta run_first_cast.sl.r_6 | delta run_first_cast.sl.r_7 | delta run_first_cast.sl.r_8 | delta run_first_cast.sl.r_9 | delta run_first_cast.sl.v171 | delta run_first_cast.sl.v173 | delta run_first_cast.sl.v186 | delta run_first_cast.sl.v31)); refine (View.read_writes_full (Val := Elt F) _ _ _ _ _).trans ?_; unfold routeWeight routeV110; try rw [← l5, ← l6]; try rfl

/-- The first step of a later row block: as the first step of the first, the weights being cast already. -/
theorem run_first (hc1 : ¬ k0_cond1 i = 1#1) (hc2 : k0_cond2 i = 1#1) (hc3 : ¬ k0_cond3 i = 1#1) (hc4 : ¬ k0_cond4 i = 1#1)
    (d2 : S512x1024.Idx → Elt F .f32) (d5 : S512x8.Idx → Elt F .f32) (d6 : S1x8.Idx → Elt F .f32) (d8 : S512x1024.Idx → Elt F .f32) (d9 : S512x8.Idx → Elt F .f32) (d10 : S512x8.Idx → Elt F .f32) (d12 : S8x512x1024.Idx → Elt F .bf16) (d13 : S8x1024x512.Idx → Elt F .bf16) (d14 : S512x1024.Idx → Elt F .bf16) (d15 : S512x1024.Idx → Elt F .f32) (d16 : S512x8.Idx → Elt F .f32) (K : PUnit → sProp 𝕄) :
    iprop(owns (c : Thread nD τ) arg2 fullShare d2
        ∗ owns (c : Thread nD τ) arg5 fullShare d5
        ∗ owns (c : Thread nD τ) arg6 fullShare d6
        ∗ owns (c : Thread nD τ) arg8 fullShare d8
        ∗ owns (c : Thread nD τ) arg9 fullShare d9
        ∗ owns (c : Thread nD τ) arg10 fullShare d10
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ (iprop(owns (c : Thread nD τ) arg2 fullShare d2
          ∗ owns (c : Thread nD τ) arg5 fullShare d5
          ∗ owns (c : Thread nD τ) arg6 fullShare d6
          ∗ owns (c : Thread nD τ) arg8 fullShare (k0_pay4 (F := F))
          ∗ owns (c : Thread nD τ) arg9 fullShare (k0_pay13 d5 d6)
          ∗ owns (c : Thread nD τ) arg10 fullShare (routeMask d5 d6)
          ∗ owns (c : Thread nD τ) arg12 fullShare d12
          ∗ owns (c : Thread nD τ) arg13 fullShare d13
          ∗ owns (c : Thread nD τ) arg14 fullShare (k0_pay3 d2)
          ∗ owns (c : Thread nD τ) arg15 fullShare (k0_pay5 (k0_pay3 d2) (VecWindow.window d12 (k0_off3 i) S1x512x1024.size (k0_off3_inb i hc2)) (VecWindow.window d13 (k0_off4 i) S1x1024x512.size (k0_off4_inb i hc2)))
          ∗ owns (c : Thread nD τ) arg16 fullShare (routeWeight d5 d6)) -∗ K ⟨⟩))
      ⊢ wp frame (wpE (defs₀ (F := F)) Variants.none c none) Set.univ
          (cc0__expert_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__expert_body_eq_skeleton]; unfold cc0__expert_body_skel
  simp only [k0_part1_eq_skeleton, k0_part2_eq_skeleton, k0_part3_eq_skeleton, k0_part4_eq_skeleton, k0_part5_eq_skeleton]
  unfold owns
  iintro ⟨⟨%f2, %e2, H2⟩, ⟨%f5, %e5, H5⟩, ⟨%f6, %e6, H6⟩, ⟨%f8, %e8, H8⟩, ⟨%f9, %e9, H9⟩, ⟨%f10, %e10, H10⟩, ⟨%f12, %e12, H12⟩, ⟨%f13, %e13, H13⟩, ⟨%f14, %e14, H14⟩, ⟨%f15, %e15, H15⟩, ⟨%f16, %e16, H16⟩, Hk⟩
  subst e2; subst e5; subst e6; subst e8; subst e9; subst e10; subst e12; subst e13; subst e14; subst e15; subst e16
  have l2 : View.readAt (Elt F) arg2.view (Rect.unit (s := S512x1024) ![0, 0] S512x1024.size inb_S512x1024_S512x1024_0_0).toLoadRect f2 = View.read (Elt F) arg2.view f2 := View.readAt_full arg2.view f2 _
  have l5 : View.readAt (Elt F) arg5.view (Rect.unit (s := S512x8) ![0, 0] S512x8.size inb_S512x8_S512x8_0_0).toLoadRect f5 = View.read (Elt F) arg5.view f5 := View.readAt_full arg5.view f5 _
  have l6 : View.readAt (Elt F) arg6.view (Rect.unit (s := S1x8) ![0, 0] S1x8.size inb_S1x8_S1x8_0_0).toLoadRect f6 = View.read (Elt F) arg6.view f6 := View.readAt_full arg6.view f6 _

  sl_exec (disch := first | sl_exact hc1 | sl_exact hc2 | sl_exact hc3 | sl_exact hc4)
  sl_step
  iapply Hk
  isplitl [H2]
  · iexists _; isplitr; swap; · iexact H2
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro; (repeat (first | delta run_first.sl.H14_1 | delta run_first.sl.r | delta run_first.sl.r_1 | delta run_first.sl.r_2 | delta run_first.sl.r_3 | delta run_first.sl.r_4 | delta run_first.sl.r_5 | delta run_first.sl.r_6 | delta run_first.sl.r_7 | delta run_first.sl.r_8 | delta run_first.sl.r_9 | delta run_first.sl.v171 | delta run_first.sl.v31)); refine (View.read_writes_full (Val := Elt F) _ _ _ _ _).trans ?_; try rfl
  isplitl [H9]
  · iexists _; isplitr; swap; · iexact H9
    ipureintro; (repeat (first | delta run_first.sl.H14_1 | delta run_first.sl.r | delta run_first.sl.r_1 | delta run_first.sl.r_2 | delta run_first.sl.r_3 | delta run_first.sl.r_4 | delta run_first.sl.r_5 | delta run_first.sl.r_6 | delta run_first.sl.r_7 | delta run_first.sl.r_8 | delta run_first.sl.r_9 | delta run_first.sl.v171 | delta run_first.sl.v31)); refine (View.read_writes_full (Val := Elt F) _ _ _ _ _).trans ?_; try rw [← l5, ← l6]; try rfl
  isplitl [H10]
  · iexists _; isplitr; swap; · iexact H10
    ipureintro; (repeat (first | delta run_first.sl.H14_1 | delta run_first.sl.r | delta run_first.sl.r_1 | delta run_first.sl.r_2 | delta run_first.sl.r_3 | delta run_first.sl.r_4 | delta run_first.sl.r_5 | delta run_first.sl.r_6 | delta run_first.sl.r_7 | delta run_first.sl.r_8 | delta run_first.sl.r_9 | delta run_first.sl.v171 | delta run_first.sl.v31)); refine (View.read_writes_full (Val := Elt F) _ _ _ _ _).trans ?_; unfold routeMask routeV110; try rw [← l5, ← l6]; try rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; (repeat (first | delta run_first.sl.H14_1 | delta run_first.sl.r | delta run_first.sl.r_1 | delta run_first.sl.r_2 | delta run_first.sl.r_3 | delta run_first.sl.r_4 | delta run_first.sl.r_5 | delta run_first.sl.r_6 | delta run_first.sl.r_7 | delta run_first.sl.r_8 | delta run_first.sl.r_9 | delta run_first.sl.v171 | delta run_first.sl.v31)); refine (View.read_writes_full (Val := Elt F) _ _ _ _ _).trans ?_; try rw [← l2]; try rfl
  isplitl [H15]
  · iexists _; isplitr; swap; · iexact H15
    ipureintro; (repeat (first | delta run_first.sl.H14_1 | delta run_first.sl.r | delta run_first.sl.r_1 | delta run_first.sl.r_2 | delta run_first.sl.r_3 | delta run_first.sl.r_4 | delta run_first.sl.r_5 | delta run_first.sl.r_6 | delta run_first.sl.r_7 | delta run_first.sl.r_8 | delta run_first.sl.r_9 | delta run_first.sl.v171 | delta run_first.sl.v31)); refine (View.read_writes_full (Val := Elt F) _ _ _ _ _).trans ?_; simp only [readCov_same]; try rw [← l2]; try rfl
  iexists _; isplitr; swap; · iexact H16
  ipureintro; (repeat (first | delta run_first.sl.H14_1 | delta run_first.sl.r | delta run_first.sl.r_1 | delta run_first.sl.r_2 | delta run_first.sl.r_3 | delta run_first.sl.r_4 | delta run_first.sl.r_5 | delta run_first.sl.r_6 | delta run_first.sl.r_7 | delta run_first.sl.r_8 | delta run_first.sl.r_9 | delta run_first.sl.v171 | delta run_first.sl.v31)); refine (View.read_writes_full (Val := Elt F) _ _ _ _ _).trans ?_; unfold routeWeight routeV110; try rw [← l5, ← l6]; try rfl

/-- A later expert's step in the first row block: its weights are cast into their slabs, the previous expert's output is masked into its slabs and accumulated, and this expert's output is put aside. -/
theorem run_steady_cast (hc1 : k0_cond1 i = 1#1) (hc2 : ¬ k0_cond2 i = 1#1) (hc3 : k0_cond3 i = 1#1) (hc4 : ¬ k0_cond4 i = 1#1)
    (d3 : S1x512x1024.Idx → Elt F .f32) (d4 : S1x1024x512.Idx → Elt F .f32) (d8 : S512x1024.Idx → Elt F .f32) (d10 : S512x8.Idx → Elt F .f32) (d11 : S4x8x512x256.Idx → Elt F .bf16) (d12 : S8x512x1024.Idx → Elt F .bf16) (d13 : S8x1024x512.Idx → Elt F .bf16) (d14 : S512x1024.Idx → Elt F .bf16) (d15 : S512x1024.Idx → Elt F .f32) (d16 : S512x8.Idx → Elt F .f32) (K : PUnit → sProp 𝕄) :
    iprop(owns (c : Thread nD τ) arg3 fullShare d3
        ∗ owns (c : Thread nD τ) arg4 fullShare d4
        ∗ owns (c : Thread nD τ) arg8 fullShare d8
        ∗ owns (c : Thread nD τ) arg10 fullShare d10
        ∗ owns (c : Thread nD τ) arg11 fullShare d11
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ (iprop(owns (c : Thread nD τ) arg3 fullShare d3
          ∗ owns (c : Thread nD τ) arg4 fullShare d4
          ∗ owns (c : Thread nD τ) arg8 fullShare (k0_pay7 (k0_pay27 (BitVec.ofNat 32 (i 1).val) d16) (k0_pay28 (BitVec.ofNat 32 (i 1).val) d15 d10) d8)
          ∗ owns (c : Thread nD τ) arg10 fullShare d10
          ∗ owns (c : Thread nD τ) arg11 fullShare (VecWindow.put (VecWindow.put (VecWindow.put (VecWindow.put d11 (k0_off5 i) S1x1x512x256.size (k0_pay29 (BitVec.ofNat 32 (i 1).val) d15 d10)) (k0_off6 i) S1x1x512x256.size (k0_pay30 (BitVec.ofNat 32 (i 1).val) d15 d10)) (k0_off7 i) S1x1x512x256.size (k0_pay31 (BitVec.ofNat 32 (i 1).val) d15 d10)) (k0_off8 i) S1x1x512x256.size (k0_pay6 (k0_pay32 (BitVec.ofNat 32 (i 1).val) d15 d10)))
          ∗ owns (c : Thread nD τ) arg12 fullShare (VecWindow.put d12 (k0_off1 i) S1x512x1024.size (k0_pay1 d3))
          ∗ owns (c : Thread nD τ) arg13 fullShare (VecWindow.put d13 (k0_off2 i) S1x1024x512.size (k0_pay2 d4))
          ∗ owns (c : Thread nD τ) arg14 fullShare d14
          ∗ owns (c : Thread nD τ) arg15 fullShare (k0_pay8 d14 (k0_pay1 d3) (k0_pay2 d4))
          ∗ owns (c : Thread nD τ) arg16 fullShare d16) -∗ K ⟨⟩))
      ⊢ wp frame (wpE (defs₀ (F := F)) Variants.none c none) Set.univ
          (cc0__expert_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__expert_body_eq_skeleton]; unfold cc0__expert_body_skel
  simp only [k0_part1_eq_skeleton, k0_part2_eq_skeleton, k0_part3_eq_skeleton, k0_part4_eq_skeleton, k0_part5_eq_skeleton]
  unfold owns
  iintro ⟨⟨%f3, %e3, H3⟩, ⟨%f4, %e4, H4⟩, ⟨%f8, %e8, H8⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  subst e3; subst e4; subst e8; subst e10; subst e11; subst e12; subst e13; subst e14; subst e15; subst e16
  have l3 : View.readAt (Elt F) arg3.view (Rect.unit (s := S1x512x1024) ![0, 0, 0] S1x512x1024.size inb_S1x512x1024_S1x512x1024_0_0_0).toLoadRect f3 = View.read (Elt F) arg3.view f3 := View.readAt_full arg3.view f3 _
  have l4 : View.readAt (Elt F) arg4.view (Rect.unit (s := S1x1024x512) ![0, 0, 0] S1x1024x512.size inb_S1x1024x512_S1x1024x512_0_0_0).toLoadRect f4 = View.read (Elt F) arg4.view f4 := View.readAt_full arg4.view f4 _
  have l8 : View.readAt (Elt F) arg8.view (Rect.unit (s := S512x1024) ![0, 0] S512x1024.size inb_S512x1024_S512x1024_0_0).toLoadRect f8 = View.read (Elt F) arg8.view f8 := View.readAt_full arg8.view f8 _
  have l10 : View.readAt (Elt F) arg10.view (Rect.unit (s := S512x8) ![0, 0] S512x8.size inb_S512x8_S512x8_0_0).toLoadRect f10 = View.read (Elt F) arg10.view f10 := View.readAt_full arg10.view f10 _
  have l14 : View.readAt (Elt F) arg14.view (Rect.unit (s := S512x1024) ![0, 0] S512x1024.size inb_S512x1024_S512x1024_0_0).toLoadRect f14 = View.read (Elt F) arg14.view f14 := View.readAt_full arg14.view f14 _
  have l15 : View.readAt (Elt F) arg15.view (Rect.unit (s := S512x1024) ![0, 0] S512x1024.size inb_S512x1024_S512x1024_0_0).toLoadRect f15 = View.read (Elt F) arg15.view f15 := View.readAt_full arg15.view f15 _
  have l16 : View.readAt (Elt F) arg16.view (Rect.unit (s := S512x8) ![0, 0] S512x8.size inb_S512x8_S512x8_0_0).toLoadRect f16 = View.read (Elt F) arg16.view f16 := View.readAt_full arg16.view f16 _

  sl_exec (disch := first | sl_exact hc1 | sl_exact hc2 | sl_exact hc3 | sl_exact hc4)
  sl_step
  iapply Hk
  isplitl [H3]
  · iexists _; isplitr; swap; · iexact H3
    ipureintro; rfl
  isplitl [H4]
  · iexists _; isplitr; swap; · iexact H4
    ipureintro; rfl
  isplitl [H8]
  · iexists _; isplitr; swap; · iexact H8
    ipureintro; (repeat (first | delta run_steady_cast.sl.H12_1 | delta run_steady_cast.sl.H13_1 | delta run_steady_cast.sl.r | delta run_steady_cast.sl.r_1 | delta run_steady_cast.sl.r_2 | delta run_steady_cast.sl.v16 | delta run_steady_cast.sl.v68 | delta run_steady_cast.sl.v81)); refine (View.read_writes_full (Val := Elt F) _ _ _ _ _).trans ?_; try rw [← l8, ← l10, ← l15, ← l16]; try rfl
  isplitl [H10]
  · iexists _; isplitr; swap; · iexact H10
    ipureintro; rfl
  isplitl [H11]
  · iexists _; isplitr; swap; · iexact H11
    ipureintro; (repeat (first | delta run_steady_cast.sl.H12_1 | delta run_steady_cast.sl.H13_1 | delta run_steady_cast.sl.r | delta run_steady_cast.sl.r_1 | delta run_steady_cast.sl.r_2 | delta run_steady_cast.sl.v16 | delta run_steady_cast.sl.v68 | delta run_steady_cast.sl.v81)); rw [View.read_writes_cons_put (h := rfl), View.read_writes_cons_put (h := rfl), View.read_writes_cons_put (h := rfl), View.read_writes_cons_put (h := rfl), View.writes_nil]; try rw [← l10, ← l15]; try rfl
  isplitl [H12]
  · iexists _; isplitr; swap; · iexact H12
    ipureintro; (repeat (first | delta run_steady_cast.sl.H12_1 | delta run_steady_cast.sl.H13_1 | delta run_steady_cast.sl.r | delta run_steady_cast.sl.r_1 | delta run_steady_cast.sl.r_2 | delta run_steady_cast.sl.v16 | delta run_steady_cast.sl.v68 | delta run_steady_cast.sl.v81)); rw [View.read_writes_cons_put (h := rfl), View.writes_nil]; try rw [← l3]; try rfl
  isplitl [H13]
  · iexists _; isplitr; swap; · iexact H13
    ipureintro; (repeat (first | delta run_steady_cast.sl.H12_1 | delta run_steady_cast.sl.H13_1 | delta run_steady_cast.sl.r | delta run_steady_cast.sl.r_1 | delta run_steady_cast.sl.r_2 | delta run_steady_cast.sl.v16 | delta run_steady_cast.sl.v68 | delta run_steady_cast.sl.v81)); rw [View.read_writes_cons_put (h := rfl), View.writes_nil]; try rw [← l4]; try rfl
  isplitl [H14]
  · iexists _; isplitr; swap; · iexact H14
    ipureintro; rfl
  isplitl [H15]
  · iexists _; isplitr; swap; · iexact H15
    ipureintro; (repeat (first | delta run_steady_cast.sl.H12_1 | delta run_steady_cast.sl.H13_1 | delta run_steady_cast.sl.r | delta run_steady_cast.sl.r_1 | delta run_steady_cast.sl.r_2 | delta run_steady_cast.sl.v16 | delta run_steady_cast.sl.v68 | delta run_steady_cast.sl.v81)); refine (View.read_writes_full (Val := Elt F) _ _ _ _ _).trans ?_; try rw [← l3, ← l4, ← l14]; exact congr (congr (congrArg k0_pay8 rfl) (readCov_same _ _ _ _ _)) (readCov_same _ _ _ _ _)
  iexists _; isplitr; swap; · iexact H16
  ipureintro; rfl

/-- A later expert's step in a later row block, the weights being cast already. -/
theorem run_steady (hc1 : ¬ k0_cond1 i = 1#1) (hc2 : ¬ k0_cond2 i = 1#1) (hc3 : k0_cond3 i = 1#1) (hc4 : ¬ k0_cond4 i = 1#1)
    (d8 : S512x1024.Idx → Elt F .f32) (d10 : S512x8.Idx → Elt F .f32) (d11 : S4x8x512x256.Idx → Elt F .bf16) (d12 : S8x512x1024.Idx → Elt F .bf16) (d13 : S8x1024x512.Idx → Elt F .bf16) (d14 : S512x1024.Idx → Elt F .bf16) (d15 : S512x1024.Idx → Elt F .f32) (d16 : S512x8.Idx → Elt F .f32) (K : PUnit → sProp 𝕄) :
    iprop(owns (c : Thread nD τ) arg8 fullShare d8
        ∗ owns (c : Thread nD τ) arg10 fullShare d10
        ∗ owns (c : Thread nD τ) arg11 fullShare d11
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ (iprop(owns (c : Thread nD τ) arg8 fullShare (k0_pay7 (k0_pay27 (BitVec.ofNat 32 (i 1).val) d16) (k0_pay28 (BitVec.ofNat 32 (i 1).val) d15 d10) d8)
          ∗ owns (c : Thread nD τ) arg10 fullShare d10
          ∗ owns (c : Thread nD τ) arg11 fullShare (VecWindow.put (VecWindow.put (VecWindow.put (VecWindow.put d11 (k0_off5 i) S1x1x512x256.size (k0_pay29 (BitVec.ofNat 32 (i 1).val) d15 d10)) (k0_off6 i) S1x1x512x256.size (k0_pay30 (BitVec.ofNat 32 (i 1).val) d15 d10)) (k0_off7 i) S1x1x512x256.size (k0_pay31 (BitVec.ofNat 32 (i 1).val) d15 d10)) (k0_off8 i) S1x1x512x256.size (k0_pay6 (k0_pay32 (BitVec.ofNat 32 (i 1).val) d15 d10)))
          ∗ owns (c : Thread nD τ) arg12 fullShare d12
          ∗ owns (c : Thread nD τ) arg13 fullShare d13
          ∗ owns (c : Thread nD τ) arg14 fullShare d14
          ∗ owns (c : Thread nD τ) arg15 fullShare (k0_pay8 d14 (VecWindow.window d12 (k0_off9 i) S1x512x1024.size (k0_off9_inb i hc3)) (VecWindow.window d13 (k0_off10 i) S1x1024x512.size (k0_off10_inb i hc3)))
          ∗ owns (c : Thread nD τ) arg16 fullShare d16) -∗ K ⟨⟩))
      ⊢ wp frame (wpE (defs₀ (F := F)) Variants.none c none) Set.univ
          (cc0__expert_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__expert_body_eq_skeleton]; unfold cc0__expert_body_skel
  simp only [k0_part1_eq_skeleton, k0_part2_eq_skeleton, k0_part3_eq_skeleton, k0_part4_eq_skeleton, k0_part5_eq_skeleton]
  unfold owns
  iintro ⟨⟨%f8, %e8, H8⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  subst e8; subst e10; subst e11; subst e12; subst e13; subst e14; subst e15; subst e16
  have l8 : View.readAt (Elt F) arg8.view (Rect.unit (s := S512x1024) ![0, 0] S512x1024.size inb_S512x1024_S512x1024_0_0).toLoadRect f8 = View.read (Elt F) arg8.view f8 := View.readAt_full arg8.view f8 _
  have l10 : View.readAt (Elt F) arg10.view (Rect.unit (s := S512x8) ![0, 0] S512x8.size inb_S512x8_S512x8_0_0).toLoadRect f10 = View.read (Elt F) arg10.view f10 := View.readAt_full arg10.view f10 _
  have l14 : View.readAt (Elt F) arg14.view (Rect.unit (s := S512x1024) ![0, 0] S512x1024.size inb_S512x1024_S512x1024_0_0).toLoadRect f14 = View.read (Elt F) arg14.view f14 := View.readAt_full arg14.view f14 _
  have l15 : View.readAt (Elt F) arg15.view (Rect.unit (s := S512x1024) ![0, 0] S512x1024.size inb_S512x1024_S512x1024_0_0).toLoadRect f15 = View.read (Elt F) arg15.view f15 := View.readAt_full arg15.view f15 _
  have l16 : View.readAt (Elt F) arg16.view (Rect.unit (s := S512x8) ![0, 0] S512x8.size inb_S512x8_S512x8_0_0).toLoadRect f16 = View.read (Elt F) arg16.view f16 := View.readAt_full arg16.view f16 _

  sl_exec (disch := first | sl_exact hc1 | sl_exact hc2 | sl_exact hc3 | sl_exact hc4)
  sl_step
  iapply Hk
  isplitl [H8]
  · iexists _; isplitr; swap; · iexact H8
    ipureintro; (repeat (first | delta run_steady.sl.r | delta run_steady.sl.r_1 | delta run_steady.sl.r_2 | delta run_steady.sl.v16)); refine (View.read_writes_full (Val := Elt F) _ _ _ _ _).trans ?_; try rw [← l8, ← l10, ← l15, ← l16]; try rfl
  isplitl [H10]
  · iexists _; isplitr; swap; · iexact H10
    ipureintro; rfl
  isplitl [H11]
  · iexists _; isplitr; swap; · iexact H11
    ipureintro; (repeat (first | delta run_steady.sl.r | delta run_steady.sl.r_1 | delta run_steady.sl.r_2 | delta run_steady.sl.v16)); rw [View.read_writes_cons_put (h := rfl), View.read_writes_cons_put (h := rfl), View.read_writes_cons_put (h := rfl), View.read_writes_cons_put (h := rfl), View.writes_nil]; try rw [← l10, ← l15]; try rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; (repeat (first | delta run_steady.sl.r | delta run_steady.sl.r_1 | delta run_steady.sl.r_2 | delta run_steady.sl.v16)); refine (View.read_writes_full (Val := Elt F) _ _ _ _ _).trans ?_; try rw [← l14]; try rfl
  iexists _; isplitr; swap; · iexact H16
  ipureintro; rfl

/-- The step after the last expert: the last output is masked into its slabs and accumulated, and the first chunk of columns is written out. -/
theorem run_turn (hc1 : ¬ k0_cond1 i = 1#1) (hc2 : ¬ k0_cond2 i = 1#1) (hc3 : ¬ k0_cond3 i = 1#1) (hc4 : k0_cond4 i = 1#1) (hc5 : k0_cond5 i = 1#1)
    (d7 : S512x8x256.Idx → Elt F .f32) (d8 : S512x1024.Idx → Elt F .f32) (d10 : S512x8.Idx → Elt F .f32) (d11 : S4x8x512x256.Idx → Elt F .bf16) (d15 : S512x1024.Idx → Elt F .f32) (d16 : S512x8.Idx → Elt F .f32) (K : PUnit → sProp 𝕄) :
    iprop(owns (c : Thread nD τ) arg7 fullShare d7
        ∗ owns (c : Thread nD τ) arg8 fullShare d8
        ∗ owns (c : Thread nD τ) arg10 fullShare d10
        ∗ owns (c : Thread nD τ) arg11 fullShare d11
        ∗ owns (c : Thread nD τ) arg15 fullShare d15
        ∗ owns (c : Thread nD τ) arg16 fullShare d16
        ∗ (iprop(owns (c : Thread nD τ) arg7 fullShare (k0_pay11 (VecWindow.window (VecWindow.put (VecWindow.put (VecWindow.put (VecWindow.put d11 ![0, 7, 0, 0] S1x1x512x256.size (k0_pay36 d15 d10)) ![1, 7, 0, 0] S1x1x512x256.size (k0_pay37 d15 d10)) ![2, 7, 0, 0] S1x1x512x256.size (k0_pay38 d15 d10)) ![3, 7, 0, 0] S1x1x512x256.size (k0_pay9 (k0_pay39 d15 d10))) (k0_off11 i) S1x8x512x256.size (k0_off11_inb i hc4)))
          ∗ owns (c : Thread nD τ) arg8 fullShare (k0_pay10 (k0_pay34 d16) (k0_pay35 d15 d10) d8)
          ∗ owns (c : Thread nD τ) arg10 fullShare d10
          ∗ owns (c : Thread nD τ) arg11 fullShare (VecWindow.put (VecWindow.put (VecWindow.put (VecWindow.put d11 ![0, 7, 0, 0] S1x1x512x256.size (k0_pay36 d15 d10)) ![1, 7, 0, 0] S1x1x512x256.size (k0_pay37 d15 d10)) ![2, 7, 0, 0] S1x1x512x256.size (k0_pay38 d15 d10)) ![3, 7, 0, 0] S1x1x512x256.size (k0_pay9 (k0_pay39 d15 d10)))
          ∗ owns (c : Thread nD τ) arg15 fullShare d15
          ∗ owns (c : Thread nD τ) arg16 fullShare d16) -∗ K ⟨⟩))
      ⊢ wp frame (wpE (defs₀ (F := F)) Variants.none c none) Set.univ
          (cc0__expert_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__expert_body_eq_skeleton]; unfold cc0__expert_body_skel
  simp only [k0_part1_eq_skeleton, k0_part2_eq_skeleton, k0_part3_eq_skeleton, k0_part4_eq_skeleton, k0_part5_eq_skeleton]
  unfold owns
  iintro ⟨⟨%f7, %e7, H7⟩, ⟨%f8, %e8, H8⟩, ⟨%f10, %e10, H10⟩, ⟨%f11, %e11, H11⟩, ⟨%f15, %e15, H15⟩, ⟨%f16, %e16, H16⟩, Hk⟩
  subst e7; subst e8; subst e10; subst e11; subst e15; subst e16
  have l8 : View.readAt (Elt F) arg8.view (Rect.unit (s := S512x1024) ![0, 0] S512x1024.size inb_S512x1024_S512x1024_0_0).toLoadRect f8 = View.read (Elt F) arg8.view f8 := View.readAt_full arg8.view f8 _
  have l10 : View.readAt (Elt F) arg10.view (Rect.unit (s := S512x8) ![0, 0] S512x8.size inb_S512x8_S512x8_0_0).toLoadRect f10 = View.read (Elt F) arg10.view f10 := View.readAt_full arg10.view f10 _
  have l15 : View.readAt (Elt F) arg15.view (Rect.unit (s := S512x1024) ![0, 0] S512x1024.size inb_S512x1024_S512x1024_0_0).toLoadRect f15 = View.read (Elt F) arg15.view f15 := View.readAt_full arg15.view f15 _
  have l16 : View.readAt (Elt F) arg16.view (Rect.unit (s := S512x8) ![0, 0] S512x8.size inb_S512x8_S512x8_0_0).toLoadRect f16 = View.read (Elt F) arg16.view f16 := View.readAt_full arg16.view f16 _
  letI : ClosedOff (k0_off11 i) := ⟨![0, 0, 0, 0], off11_turn i hc5⟩
  sl_exec (disch := first | sl_exact hc1 | sl_exact hc2 | sl_exact hc3 | sl_exact hc4 | sl_exact hc5)
  sl_step
  iapply Hk
  isplitl [H7]
  · iexists _; isplitr; swap; · iexact H7
    ipureintro; (repeat (first | delta run_turn.sl.H11_4 | delta run_turn.sl.r | delta run_turn.sl.r_1 | delta run_turn.sl.r_2 | delta run_turn.sl.v21)); refine (View.read_writes_full (Val := Elt F) _ _ _ _ _).trans ?_; refine congrArg k0_pay11 ((View.readAt_unit _ _ _ rfl (k0_off11_inb i hc4)).trans ?_); rw [View.read_writes_cons_put (h := rfl), View.read_writes_cons_put (h := rfl), View.read_writes_cons_put (h := rfl), View.read_writes_cons_put (h := rfl), View.writes_nil]; try rw [← l10, ← l15]; try rfl
  isplitl [H8]
  · iexists _; isplitr; swap; · iexact H8
    ipureintro; (repeat (first | delta run_turn.sl.H11_4 | delta run_turn.sl.r | delta run_turn.sl.r_1 | delta run_turn.sl.r_2 | delta run_turn.sl.v21)); refine (View.read_writes_full (Val := Elt F) _ _ _ _ _).trans ?_; try rw [← l8, ← l10, ← l15, ← l16]; try rfl
  isplitl [H10]
  · iexists _; isplitr; swap; · iexact H10
    ipureintro; rfl
  isplitl [H11]
  · iexists _; isplitr; swap; · iexact H11
    ipureintro; (repeat (first | delta run_turn.sl.H11_4 | delta run_turn.sl.r | delta run_turn.sl.r_1 | delta run_turn.sl.r_2 | delta run_turn.sl.v21)); rw [View.read_writes_cons_put (h := rfl), View.read_writes_cons_put (h := rfl), View.read_writes_cons_put (h := rfl), View.read_writes_cons_put (h := rfl), View.writes_nil]; try rw [← l10, ← l15]; try rfl
  isplitl [H15]
  · iexists _; isplitr; swap; · iexact H15
    ipureintro; rfl
  iexists _; isplitr; swap; · iexact H16
  ipureintro; rfl

/-- A remaining step of a row block: its chunk of columns is written out, nothing else is touched. -/
theorem run_flush (hc1 : ¬ k0_cond1 i = 1#1) (hc2 : ¬ k0_cond2 i = 1#1) (hc3 : ¬ k0_cond3 i = 1#1) (hc4 : k0_cond4 i = 1#1) (hc5 : ¬ k0_cond5 i = 1#1)
    (d7 : S512x8x256.Idx → Elt F .f32) (d11 : S4x8x512x256.Idx → Elt F .bf16) (K : PUnit → sProp 𝕄) :
    iprop(owns (c : Thread nD τ) arg7 fullShare d7
        ∗ owns (c : Thread nD τ) arg11 fullShare d11
        ∗ (iprop(owns (c : Thread nD τ) arg7 fullShare (k0_pay11 (VecWindow.window d11 (k0_off11 i) S1x8x512x256.size (k0_off11_inb i hc4)))
          ∗ owns (c : Thread nD τ) arg11 fullShare d11) -∗ K ⟨⟩))
      ⊢ wp frame (wpE (defs₀ (F := F)) Variants.none c none) Set.univ
          (cc0__expert_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__expert_body_eq_skeleton]; unfold cc0__expert_body_skel
  simp only [k0_part1_eq_skeleton, k0_part2_eq_skeleton, k0_part3_eq_skeleton, k0_part4_eq_skeleton, k0_part5_eq_skeleton]
  unfold owns
  iintro ⟨⟨%f7, %e7, H7⟩, ⟨%f11, %e11, H11⟩, Hk⟩
  subst e7; subst e11

  sl_exec (disch := first | sl_exact hc1 | sl_exact hc2 | sl_exact hc3 | sl_exact hc4 | sl_exact hc5)
  sl_step
  iapply Hk
  isplitl [H7]
  · iexists _; isplitr; swap; · iexact H7
    ipureintro; refine (View.read_writes_full (Val := Elt F) _ _ _ _ _).trans ?_; try rfl
  iexists _; isplitr; swap; · iexact H11
  ipureintro; rfl

end Cert.KernelIdeal.Hand
-- ==== Proof.K.State.lean ====
module

public import proofs.«01_k».proof.Proof.K.Body
public import Idealize.ShloMosaic.Lib.ValueIdxCoords

/-! What the scratch buffers hold between two grid points, and that each kind of grid point keeps it so. The grid
    is 4 blocks of rows by 12 steps: point `n` is block `n / 12`, step `n % 12`. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-! ## The conditions and the offsets of a grid point, in closed form -/

/-- The weights are narrowed at the first eight points. -/
theorem cond1_iff : ∀ t : Fin grid0.N, k0_cond1 (grid0.coords t) = 1#1 ↔ t.val < 8 := by decide +kernel
/-- The first branch is taken at a block's first step. -/
theorem cond2_iff : ∀ t : Fin grid0.N, k0_cond2 (grid0.coords t) = 1#1 ↔ t.val % 12 = 0 := by decide +kernel
/-- The second branch is taken at a block's middle steps. -/
theorem cond3_iff : ∀ t : Fin grid0.N, k0_cond3 (grid0.coords t) = 1#1 ↔ 0 < t.val % 12 ∧ t.val % 12 < 8 := by decide +kernel
/-- The masked outputs are written back from a block's ninth step on. -/
theorem cond4_iff : ∀ t : Fin grid0.N, k0_cond4 (grid0.coords t) = 1#1 ↔ 8 ≤ t.val % 12 := by decide +kernel
/-- The last expert is finished at a block's ninth step. -/
theorem cond5_iff : ∀ t : Fin grid0.N, k0_cond5 (grid0.coords t) = 1#1 ↔ t.val % 12 = 8 := by decide +kernel
/-- The second grid coordinate is the step within the block. -/
theorem step_eq : ∀ t : Fin grid0.N, (grid0.coords t 1).val = t.val % 12 := by decide +kernel
/-- The first weight is stored at the step's row of its cache. -/
theorem off1_eq : ∀ t : Fin grid0.N, k0_off1 (grid0.coords t) = ![t.val % 12, 0, 0] := by decide +kernel
/-- The second weight is stored at the step's row of its cache. -/
theorem off2_eq : ∀ t : Fin grid0.N, k0_off2 (grid0.coords t) = ![t.val % 12, 0, 0] := by decide +kernel
/-- A first step reads the first weight at the step's row. -/
theorem off3_eq : ∀ t : Fin grid0.N, k0_off3 (grid0.coords t) = ![t.val % 12, 0, 0] := by decide +kernel
/-- A first step reads the second weight at the step's row. -/
theorem off4_eq : ∀ t : Fin grid0.N, k0_off4 (grid0.coords t) = ![t.val % 12, 0, 0] := by decide +kernel
/-- A middle step reads the first weight at the step's row. -/
theorem off9_eq : ∀ t : Fin grid0.N, k0_off9 (grid0.coords t) = ![t.val % 12, 0, 0] := by decide +kernel
/-- A middle step reads the second weight at the step's row. -/
theorem off10_eq : ∀ t : Fin grid0.N, k0_off10 (grid0.coords t) = ![t.val % 12, 0, 0] := by decide +kernel
/-- The first column chunk is stored at the previous expert's row. -/
theorem off5_eq : ∀ t : Fin grid0.N, 0 < t.val % 12 → k0_off5 (grid0.coords t) = ![0, t.val % 12 - 1, 0, 0] := by decide +kernel
/-- The second column chunk is stored at the previous expert's row. -/
theorem off6_eq : ∀ t : Fin grid0.N, 0 < t.val % 12 → k0_off6 (grid0.coords t) = ![1, t.val % 12 - 1, 0, 0] := by decide +kernel
/-- The third column chunk is stored at the previous expert's row. -/
theorem off7_eq : ∀ t : Fin grid0.N, 0 < t.val % 12 → k0_off7 (grid0.coords t) = ![2, t.val % 12 - 1, 0, 0] := by decide +kernel
/-- The fourth column chunk is stored at the previous expert's row. -/
theorem off8_eq : ∀ t : Fin grid0.N, 0 < t.val % 12 → k0_off8 (grid0.coords t) = ![3, t.val % 12 - 1, 0, 0] := by decide +kernel
/-- The column chunk written back is counted from the ninth step. -/
theorem off11_eq : ∀ t : Fin grid0.N, 8 ≤ t.val % 12 → k0_off11 (grid0.coords t) = ![t.val % 12 - 8, 0, 0, 0] := by decide +kernel

/-! ## What the kernel computes -/

/-- Grid point `n`. -/
def pt (n : ℕ) : Fin cfg0.N := ⟨n % 48, lt_of_lt_of_eq (Nat.mod_lt n (by decide)) N_0.symm⟩

/-- Grid point `t` is `t`. -/
theorem pt_val (t : Fin cfg0.N) : pt t.val = t :=
  Fin.ext (Nat.mod_eq_of_lt (lt_of_lt_of_eq t.isLt N_0))

variable (m : (ℓ : Loc nD τ sig) → Buf (Elt F) ℓ) (c : Dev nD)

/-- The rows of block `T`. -/
def xIn (T : ℕ) : FVec F S512x1024 .f32 := iblk m c 0 (pt (12 * T))
/-- The logits of block `T`. -/
def lgIn (T : ℕ) : FVec F S512x8 .f32 := iblk m c 3 (pt (12 * T))
/-- The gates. -/
def gtIn (T : ℕ) : FVec F S1x8 .f32 := iblk m c 4 (pt (12 * T))
/-- Expert `e`'s first weight, narrowed. -/
def w1c (e : ℕ) : FVec F S1x512x1024 .bf16 := k0_pay1 (iblk m c 1 (pt e))
/-- Expert `e`'s second weight, narrowed. -/
def w2c (e : ℕ) : FVec F S1x1024x512 .bf16 := k0_pay2 (iblk m c 2 (pt e))
/-- Expert `e`'s output on block `T`. -/
def oOf (T e : ℕ) : FVec F S512x1024 .f32 := k0_pay5 (k0_pay3 (xIn m c T)) (w1c m c e) (w2c m c e)
/-- Block `T`'s mask. -/
def mkOf (T : ℕ) : FVec F S512x8 .f32 := routeMask (lgIn m c T) (gtIn m c T)
/-- Block `T`'s routing weights. -/
def rwOf (T : ℕ) : FVec F S512x8 .f32 := routeWeight (lgIn m c T) (gtIn m c T)
/-- Block `T`'s gated logits. -/
def preOf (T : ℕ) : FVec F S512x8 .f32 := k0_pay13 (lgIn m c T) (gtIn m c T)
/-- Column chunk `k` of an expert's masked output. -/
def chunk (k : ℕ) (w : BitVec 32) (o : FVec F S512x1024 .f32) (mk : FVec F S512x8 .f32) : FVec F S1x1x512x256 .bf16 :=
  match k with
  | 0 => k0_pay29 w o mk
  | 1 => k0_pay30 w o mk
  | 2 => k0_pay31 w o mk
  | _ => k0_pay6 (k0_pay32 w o mk)
/-- Column chunk `k` of expert `e`'s masked output on block `T`. -/
def chOf (T k e : ℕ) : FVec F S1x1x512x256 .bf16 := chunk k (BitVec.ofNat 32 (e + 1)) (oOf m c T e) (mkOf m c T)
/-- The running sum over the first `s` experts on block `T`. -/
def finOf (T : ℕ) : ℕ → FVec F S512x1024 .f32
  | 0 => k0_pay4 (F := F)
  | s + 1 => if s < 8 then k0_pay7 (k0_pay27 (BitVec.ofNat 32 (s + 1)) (rwOf m c T)) (k0_pay28 (BitVec.ofNat 32 (s + 1)) (oOf m c T s) (mkOf m c T)) (finOf T s)
    else finOf T s
/-- Column chunk `k` of all the experts' masked outputs on block `T`. -/
def gath (T k : ℕ) : FVec F S1x8x512x256 .bf16 := fun j =>
  chOf m c T k (j 1).val (ix4 (n0 := 1) (n1 := 1) (n2 := 512) (n3 := 256) 0 0 (j 2) (j 3))
/-- What is written back for column chunk `k` of block `T`. -/
def outOf (T k : ℕ) : FVec F S512x8x256 .f32 := k0_pay11 (gath m c T k)

/-! ## The state between two points -/

/-- An expert's first weight lies inside its cache. -/
theorem inb1 (e : ℕ) (he : e < 8) : ∀ a, (![e, 0, 0] : Fin 3 → ℕ) a + S1x512x1024.size a ≤ S8x512x1024.size a := by
  intro a; match a with
  | 0 => show e + 1 ≤ 8; omega
  | 1 => exact Nat.le_of_eq rfl
  | 2 => exact Nat.le_of_eq rfl
/-- An expert's second weight lies inside its cache. -/
theorem inb2 (e : ℕ) (he : e < 8) : ∀ a, (![e, 0, 0] : Fin 3 → ℕ) a + S1x1024x512.size a ≤ S8x1024x512.size a := by
  intro a; match a with
  | 0 => show e + 1 ≤ 8; omega
  | 1 => exact Nat.le_of_eq rfl
  | 2 => exact Nat.le_of_eq rfl
/-- A column chunk of an expert lies inside the stack. -/
theorem inb4 (k e : ℕ) (hk : k < 4) (he : e < 8) : ∀ a, (![k, e, 0, 0] : Fin 4 → ℕ) a + S1x1x512x256.size a ≤ S4x8x512x256.size a := by
  intro a; match a with
  | 0 => show k + 1 ≤ 4; omega
  | 1 => show e + 1 ≤ 8; omega
  | 2 => exact Nat.le_of_eq rfl
  | 3 => exact Nat.le_of_eq rfl
/-- A column chunk of all the experts lies inside the stack. -/
theorem inb11 (k : ℕ) (hk : k < 4) : ∀ a, (![k, 0, 0, 0] : Fin 4 → ℕ) a + S1x8x512x256.size a ≤ S4x8x512x256.size a := by
  intro a; match a with
  | 0 => show k + 1 ≤ 4; omega
  | 1 => exact Nat.le_of_eq rfl
  | 2 => exact Nat.le_of_eq rfl
  | 3 => exact Nat.le_of_eq rfl

/-- What the scratch buffers hold before point `n`. -/
structure Good (n : ℕ) (d11 : FVec F S4x8x512x256 .bf16) (d12 : FVec F S8x512x1024 .bf16) (d13 : FVec F S8x1024x512 .bf16)
    (d14 : FVec F S512x1024 .bf16) (d15 : FVec F S512x1024 .f32) (d16 : FVec F S512x8 .f32) : Prop where
  w1 : ∀ e (he : e < 8), 0 < n / 12 ∨ e < n % 12 → VecWindow.window (s := S8x512x1024) d12 ![e, 0, 0] S1x512x1024.size (inb1 e he) = w1c m c e
  w2 : ∀ e (he : e < 8), 0 < n / 12 ∨ e < n % 12 → VecWindow.window (s := S8x1024x512) d13 ![e, 0, 0] S1x1024x512.size (inb2 e he) = w2c m c e
  xb : 0 < n % 12 → d14 = k0_pay3 (xIn m c (n / 12))
  rw : 0 < n % 12 → d16 = rwOf m c (n / 12)
  op : 0 < n % 12 → n % 12 ≤ 8 → d15 = oOf m c (n / 12) (n % 12 - 1)
  st : ∀ k (hk : k < 4) e (he : e < 8), e + 1 < n % 12 →
    VecWindow.window (s := S4x8x512x256) d11 ![k, e, 0, 0] S1x1x512x256.size (inb4 k e hk he) = chOf m c (n / 12) k e

/-- Before the first point nothing is asked. -/
theorem good_zero (d11 : FVec F S4x8x512x256 .bf16) (d12 : FVec F S8x512x1024 .bf16) (d13 : FVec F S8x1024x512 .bf16)
    (d14 : FVec F S512x1024 .bf16) (d15 : FVec F S512x1024 .f32) (d16 : FVec F S512x8 .f32) : Good m c 0 d11 d12 d13 d14 d15 d16 where
  w1 e he h := absurd h (by omega)
  w2 e he h := absurd h (by omega)
  xb h := absurd h (by omega)
  rw h := absurd h (by omega)
  op h := absurd h (by omega)
  st k hk e he h := absurd h (by omega)

/-- The stack with one expert's four column chunks put in. -/
def putRow (d : FVec F S4x8x512x256 .bf16) (e : ℕ) (p : ℕ → FVec F S1x1x512x256 .bf16) : FVec F S4x8x512x256 .bf16 :=
  VecWindow.put (s := S4x8x512x256) (VecWindow.put (s := S4x8x512x256) (VecWindow.put (s := S4x8x512x256) (VecWindow.put (s := S4x8x512x256) d
    ![0, e, 0, 0] S1x1x512x256.size (p 0)) ![1, e, 0, 0] S1x1x512x256.size (p 1)) ![2, e, 0, 0] S1x1x512x256.size (p 2)) ![3, e, 0, 0] S1x1x512x256.size (p 3)

/-- Two chunks of the stack apart in either of the first two axes. -/
theorem put_apart (d : FVec F S4x8x512x256 .bf16) (k e k' e' : ℕ) (hk : k' < 4) (he : e' < 8) (h : k ≠ k' ∨ e ≠ e') (w : FVec F S1x1x512x256 .bf16) :
    VecWindow.window (VecWindow.put (s := S4x8x512x256) d ![k, e, 0, 0] S1x1x512x256.size w) ![k', e', 0, 0] S1x1x512x256.size (inb4 k' e' hk he)
      = VecWindow.window (s := S4x8x512x256) d ![k', e', 0, 0] S1x1x512x256.size (inb4 k' e' hk he) := by
  by_cases h0 : k = k'
  · refine VecWindow.window_put_of_disjoint _ _ _ _ _ _ _ 1 ?_
    show e' + 1 ≤ e ∨ e + 1 ≤ e'; omega
  · refine VecWindow.window_put_of_disjoint _ _ _ _ _ _ _ 0 ?_
    show k' + 1 ≤ k ∨ k + 1 ≤ k'; omega

/-- A chunk of the expert just put. -/
theorem putRow_same (d : FVec F S4x8x512x256 .bf16) (e : ℕ) (p : ℕ → FVec F S1x1x512x256 .bf16) (k : ℕ) (hk : k < 4) (he : e < 8) :
    VecWindow.window (s := S4x8x512x256) (putRow d e p) ![k, e, 0, 0] S1x1x512x256.size (inb4 k e hk he) = p k := by
  unfold putRow
  obtain rfl | rfl | rfl | rfl : k = 0 ∨ k = 1 ∨ k = 2 ∨ k = 3 := by omega
  · rw [put_apart _ 3 e 0 e hk he (by omega), put_apart _ 2 e 0 e hk he (by omega), put_apart _ 1 e 0 e hk he (by omega), VecWindow.window_put_same]
  · rw [put_apart _ 3 e 1 e hk he (by omega), put_apart _ 2 e 1 e hk he (by omega), VecWindow.window_put_same]
  · rw [put_apart _ 3 e 2 e hk he (by omega), VecWindow.window_put_same]
  · rw [VecWindow.window_put_same]

/-- A chunk of another expert. -/
theorem putRow_other (d : FVec F S4x8x512x256 .bf16) (e : ℕ) (p : ℕ → FVec F S1x1x512x256 .bf16) (k e' : ℕ) (hk : k < 4) (he : e' < 8) (h : e ≠ e') :
    VecWindow.window (s := S4x8x512x256) (putRow d e p) ![k, e', 0, 0] S1x1x512x256.size (inb4 k e' hk he)
      = VecWindow.window (s := S4x8x512x256) d ![k, e', 0, 0] S1x1x512x256.size (inb4 k e' hk he) := by
  unfold putRow
  rw [put_apart _ _ _ _ _ hk he (.inr h), put_apart _ _ _ _ _ hk he (.inr h), put_apart _ _ _ _ _ hk he (.inr h), put_apart _ _ _ _ _ hk he (.inr h)]

/-- The gathered chunk, once every expert's chunk is in the stack. -/
theorem gathered (T k : ℕ) (hk : k < 4) (d : FVec F S4x8x512x256 .bf16)
    (h : ∀ e (he : e < 8), VecWindow.window (s := S4x8x512x256) d ![k, e, 0, 0] S1x1x512x256.size (inb4 k e hk he) = chOf m c T k e) :
    VecWindow.window (s := S4x8x512x256) d ![k, 0, 0, 0] S1x8x512x256.size (inb11 k hk) = gath m c T k := by
  funext j
  have h1 : (j 1).val < 8 := (j 1).isLt
  have h0 : (j 0).val < 1 := (j 0).isLt
  unfold gath
  rw [← h (j 1).val h1]
  refine congrArg d (funext fun a => Fin.ext ?_)
  match a with
  | 0 => show k + 1 * (j 0).val = k + 1 * 0; omega
  | 1 => show 0 + 1 * (j 1).val = (j 1).val + 1 * 0; omega
  | 2 => rfl
  | 3 => rfl

/-- Expert weights put in the first cache stay as the later ones are put. -/
theorem put1 (d : FVec F S8x512x1024 .bf16) (s e : ℕ) (he : e < 8) (w : FVec F S1x512x1024 .bf16) :
    VecWindow.window (VecWindow.put (s := S8x512x1024) d ![s, 0, 0] S1x512x1024.size w) ![e, 0, 0] S1x512x1024.size (inb1 e he)
      = if e = s then w else VecWindow.window (s := S8x512x1024) d ![e, 0, 0] S1x512x1024.size (inb1 e he) := by
  by_cases h : e = s
  · subst h; rw [if_pos rfl, VecWindow.window_put_same]
  · rw [if_neg h]
    refine VecWindow.window_put_of_disjoint _ _ _ _ _ _ _ 0 ?_
    show e + 1 ≤ s ∨ s + 1 ≤ e; omega
/-- Expert weights put in the second cache stay as the later ones are put. -/
theorem put2 (d : FVec F S8x1024x512 .bf16) (s e : ℕ) (he : e < 8) (w : FVec F S1x1024x512 .bf16) :
    VecWindow.window (VecWindow.put (s := S8x1024x512) d ![s, 0, 0] S1x1024x512.size w) ![e, 0, 0] S1x1024x512.size (inb2 e he)
      = if e = s then w else VecWindow.window (s := S8x1024x512) d ![e, 0, 0] S1x1024x512.size (inb2 e he) := by
  by_cases h : e = s
  · subst h; rw [if_pos rfl, VecWindow.window_put_same]
  · rw [if_neg h]
    refine VecWindow.window_put_of_disjoint _ _ _ _ _ _ _ 0 ?_
    show e + 1 ≤ s ∨ s + 1 ≤ e; omega

/-- A window at offsets given by an equation. -/
theorem window_at {α : Type} {s : Shape} (x : s.Idx → α) (size : Fin s.rank → ℕ) {off off' : Fin s.rank → ℕ} (h : off = off')
    (inb : ∀ a, off a + size a ≤ s.size a) (inb' : ∀ a, off' a + size a ≤ s.size a) :
    VecWindow.window x off size inb = VecWindow.window x off' size inb' := by
  subst h; rfl

variable {m c} {d11 : FVec F S4x8x512x256 .bf16} {d12 : FVec F S8x512x1024 .bf16} {d13 : FVec F S8x1024x512 .bf16}
  {d14 : FVec F S512x1024 .bf16} {d15 : FVec F S512x1024 .f32} {d16 : FVec F S512x8 .f32}

/-- The first step of a block, from caches that hold expert `0`'s weights. -/
theorem good_first {n : ℕ} (hn : n % 12 = 0) {d12' : FVec F S8x512x1024 .bf16} {d13' : FVec F S8x1024x512 .bf16}
    (h : Good m c n d11 d12 d13 d14 d15 d16)
    (h1 : ∀ e (he : e < 8), 0 < n / 12 ∨ e < n % 12 + 1 → VecWindow.window (s := S8x512x1024) d12' ![e, 0, 0] S1x512x1024.size (inb1 e he) = w1c m c e)
    (h2 : ∀ e (he : e < 8), 0 < n / 12 ∨ e < n % 12 + 1 → VecWindow.window (s := S8x1024x512) d13' ![e, 0, 0] S1x1024x512.size (inb2 e he) = w2c m c e) :
    Good m c (n + 1) d11 d12' d13' (k0_pay3 (xIn m c (n / 12))) (oOf m c (n / 12) 0) (rwOf m c (n / 12)) := by
  have e1 : (n + 1) / 12 = n / 12 := by omega
  have e2 : (n + 1) % 12 = 1 := by omega
  refine ⟨?_, ?_, ?_, ?_, ?_, ?_⟩
  · intro e he hh; exact h1 e he (by omega)
  · intro e he hh; exact h2 e he (by omega)
  · intro _; rw [e1]
  · intro _; rw [e1]
  · intro _ _; rw [e1, e2]
  · intro k hk e he hh; omega

/-- A middle step of a block: the last expert's chunks are put in the stack and the next expert is computed. -/
theorem good_steady {n : ℕ} (hn : 0 < n % 12) (hn8 : n % 12 < 8) {d12' : FVec F S8x512x1024 .bf16} {d13' : FVec F S8x1024x512 .bf16}
    (h : Good m c n d11 d12 d13 d14 d15 d16)
    (h1 : ∀ e (he : e < 8), 0 < n / 12 ∨ e < n % 12 + 1 → VecWindow.window (s := S8x512x1024) d12' ![e, 0, 0] S1x512x1024.size (inb1 e he) = w1c m c e)
    (h2 : ∀ e (he : e < 8), 0 < n / 12 ∨ e < n % 12 + 1 → VecWindow.window (s := S8x1024x512) d13' ![e, 0, 0] S1x1024x512.size (inb2 e he) = w2c m c e) :
    Good m c (n + 1) (putRow d11 (n % 12 - 1) fun k => chOf m c (n / 12) k (n % 12 - 1)) d12' d13' d14 (oOf m c (n / 12) (n % 12)) d16 := by
  have e1 : (n + 1) / 12 = n / 12 := by omega
  have e2 : (n + 1) % 12 = n % 12 + 1 := by omega
  refine ⟨?_, ?_, ?_, ?_, ?_, ?_⟩
  · intro e he hh; exact h1 e he (by omega)
  · intro e he hh; exact h2 e he (by omega)
  · intro _; rw [e1]; exact h.xb hn
  · intro _; rw [e1]; exact h.rw hn
  · intro _ _; rw [e1, e2]; rfl
  · intro k hk e he hh
    rw [e1]
    by_cases hx : n % 12 - 1 = e
    · subst hx; exact putRow_same _ _ _ k hk he
    · rw [putRow_other _ _ _ k e hk he hx]; exact h.st k hk e he (by omega)

/-- The step after the last expert: its chunks are put in the stack. -/
theorem good_turn {n : ℕ} (hn : n % 12 = 8) (h : Good m c n d11 d12 d13 d14 d15 d16) :
    Good m c (n + 1) (putRow d11 7 fun k => chOf m c (n / 12) k 7) d12 d13 d14 d15 d16 := by
  have e1 : (n + 1) / 12 = n / 12 := by omega
  have e2 : (n + 1) % 12 = n % 12 + 1 := by omega
  refine ⟨?_, ?_, ?_, ?_, ?_, ?_⟩
  · intro e he hh; exact h.w1 e he (by omega)
  · intro e he hh; exact h.w2 e he (by omega)
  · intro _; rw [e1]; exact h.xb (by omega)
  · intro _; rw [e1]; exact h.rw (by omega)
  · intro _ _; omega
  · intro k hk e he hh
    rw [e1]
    by_cases hx : 7 = e
    · subst hx; exact putRow_same _ _ _ k hk he
    · rw [putRow_other _ _ _ k e hk he hx]; exact h.st k hk e he (by omega)

/-- The last three steps change no scratch buffer. -/
theorem good_flush {n : ℕ} (hn : 8 < n % 12) (h : Good m c n d11 d12 d13 d14 d15 d16) : Good m c (n + 1) d11 d12 d13 d14 d15 d16 := by
  by_cases hl : n % 12 = 11
  · have e1 : (n + 1) / 12 = n / 12 + 1 := by omega
    have e2 : (n + 1) % 12 = 0 := by omega
    refine ⟨?_, ?_, ?_, ?_, ?_, ?_⟩
    · intro e he hh; exact h.w1 e he (by omega)
    · intro e he hh; exact h.w2 e he (by omega)
    · intro _; omega
    · intro _; omega
    · intro _ _; omega
    · intro k hk e he hh; omega
  · have e1 : (n + 1) / 12 = n / 12 := by omega
    have e2 : (n + 1) % 12 = n % 12 + 1 := by omega
    refine ⟨?_, ?_, ?_, ?_, ?_, ?_⟩
    · intro e he hh; exact h.w1 e he (by omega)
    · intro e he hh; exact h.w2 e he (by omega)
    · intro _; rw [e1]; exact h.xb (by omega)
    · intro _; rw [e1]; exact h.rw (by omega)
    · intro _ _; omega
    · intro k hk e he hh; rw [e1]; exact h.st k hk e he (by omega)

end Cert.KernelIdeal.Hand

end
-- ==== Proof.K.Data.lean ====
module

public import proofs.«01_k».proof.Proof.K.State
public import Idealize.ShloMosaic.Lib.Pipeline.FrameBody

/-! The launch: what the kernel's body is handed and leaves at each grid point, and the run of the program. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- Before point `n` the scratch buffers hold what `Good` says. -/
def Phi (n : ℕ) : sProp 𝕄 :=
  iprop(∃ (d11 : FVec F S4x8x512x256 .bf16) (d12 : FVec F S8x512x1024 .bf16) (d13 : FVec F S8x1024x512 .bf16)
      (d14 : FVec F S512x1024 .bf16) (d15 : FVec F S512x1024 .f32) (d16 : FVec F S512x8 .f32),
    ⌜Good m c n d11 d12 d13 d14 d15 d16⌝
      ∗ owns (c : Thread nD τ) (Memref.whole cc0_scratch0) fullShare d11
      ∗ owns (c : Thread nD τ) (Memref.whole cc0_scratch1) fullShare d12
      ∗ owns (c : Thread nD τ) (Memref.whole cc0_scratch2) fullShare d13
      ∗ owns (c : Thread nD τ) (Memref.whole cc0_scratch3) fullShare d14
      ∗ owns (c : Thread nD τ) (Memref.whole cc0_scratch4) fullShare d15
      ∗ owns (c : Thread nD τ) (Memref.whole cc0_scratch5) fullShare d16
      ∗ ∃ r, prngReg c r)

/-- The proof data: the inputs are left as found, the outputs as the kernel computes them. -/
def rdat : RDat τ (Elt F) Unit ℕ (UR sig nD τ) ℕ cfg0 c where
  A w := V m c (Pipeline.arrRef spec0 w)
  after := fun w => match w with
    | 0 => fun t Y X => X = Y
    | 1 => fun t Y X => X = Y
    | 2 => fun t Y X => X = Y
    | 3 => fun t Y X => X = Y
    | 4 => fun t Y X => X = Y
    | 5 => fun t Y X => 8 ≤ t.val % 12 → X = outOf m c (t.val / 12) (t.val % 12 - 8)
    | 6 => fun t Y X => X = finOf m c (t.val / 12) (t.val % 12)
    | 7 => fun t Y X => X = preOf m c (t.val / 12)
    | 8 => fun t Y X => X = mkOf m c (t.val / 12)
  Φ n := Phi m c n.val
  q _ := fullShare
  owed _ := 0

/-! ## What the body finds -/

/-- At every point the first window holds its block of the rows. -/
theorem found0 (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold RDat.fetched RDat.blockOf iblk; rfl)
/-- At every point the second window holds its block of the first weights. -/
theorem found1 (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold RDat.fetched RDat.blockOf iblk; rfl)
/-- At every point the third window holds its block of the second weights. -/
theorem found2 (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold RDat.fetched RDat.blockOf iblk; rfl)
/-- At every point the fourth window holds its block of the logits. -/
theorem found3 (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold RDat.fetched RDat.blockOf iblk; rfl)
/-- At every point the fifth window holds the gates. -/
theorem found4 (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold RDat.fetched RDat.blockOf iblk; rfl)

/-- A block's first step is the grid point numbered twelve times the block. -/
theorem pt_first (t : Fin cfg0.N) (hs : t.val % 12 = 0) : pt (12 * (t.val / 12)) = t := by
  rw [show 12 * (t.val / 12) = t.val by omega, pt_val]

variable (t : Fin cfg0.N)

/-- At a block's first step the rows found are the block's. -/
theorem foundX (hs : t.val % 12 = 0) (Y : FVec F S512x1024 .f32) (h : (rdat m c).Finds 0 t Y) : Y = xIn m c (t.val / 12) := by
  unfold xIn; rw [pt_first t hs]; exact found0 m c t Y h
/-- At a block's first step the logits found are the block's. -/
theorem foundL (hs : t.val % 12 = 0) (Y : FVec F S512x8 .f32) (h : (rdat m c).Finds 3 t Y) : Y = lgIn m c (t.val / 12) := by
  unfold lgIn; rw [pt_first t hs]; exact found3 m c t Y h
/-- At a block's first step the gates found are the block's. -/
theorem foundG (hs : t.val % 12 = 0) (Y : FVec F S1x8 .f32) (h : (rdat m c).Finds 4 t Y) : Y = gtIn m c (t.val / 12) := by
  unfold gtIn; rw [pt_first t hs]; exact found4 m c t Y h
/-- At one of the first eight points the first weight found, narrowed, is that expert's. -/
theorem foundW1 (h8 : t.val < 8) (Y : FVec F S1x512x1024 .f32) (h : (rdat m c).Finds 1 t Y) : k0_pay1 Y = w1c m c (t.val % 12) := by
  unfold w1c; rw [Nat.mod_eq_of_lt (show t.val < 12 by omega), pt_val]; exact congrArg k0_pay1 (found1 m c t Y h)
/-- At one of the first eight points the second weight found, narrowed, is that expert's. -/
theorem foundW2 (h8 : t.val < 8) (Y : FVec F S1x1024x512 .f32) (h : (rdat m c).Finds 2 t Y) : k0_pay2 Y = w2c m c (t.val % 12) := by
  unfold w2c; rw [Nat.mod_eq_of_lt (show t.val < 12 by omega), pt_val]; exact congrArg k0_pay2 (found2 m c t Y h)

/-- Past a block's first step the running sum is the one the step before left. -/
theorem kept6 (hs : 0 < t.val % 12) (Y : FVec F S512x1024 .f32) (h : (rdat m c).Finds 6 t Y) : Y = finOf m c (t.val / 12) (t.val % 12 - 1) := by
  rcases ((rdat m c).finds_of_pos (w := 6) (t := t) rfl (by omega) Y).mp h with hf | ⟨Y', _, hL⟩
  · exact absurd ((flush0_6 _).mp hf) (by show ¬ (t.val - 1) % 12 = 11; omega)
  · have hL' : Y = finOf m c ((t.val - 1) / 12) ((t.val - 1) % 12) := hL
    rw [hL', show (t.val - 1) / 12 = t.val / 12 by omega, show (t.val - 1) % 12 = t.val % 12 - 1 by omega]
/-- Past a block's first step the gated logits are still the block's. -/
theorem kept7 (hs : 0 < t.val % 12) (Y : FVec F S512x8 .f32) (h : (rdat m c).Finds 7 t Y) : Y = preOf m c (t.val / 12) := by
  rcases ((rdat m c).finds_of_pos (w := 7) (t := t) rfl (by omega) Y).mp h with hf | ⟨Y', _, hL⟩
  · exact absurd ((flush0_7 _).mp hf) (by show ¬ (t.val - 1) % 12 = 11; omega)
  · have hL' : Y = preOf m c ((t.val - 1) / 12) := hL
    rw [hL', show (t.val - 1) / 12 = t.val / 12 by omega]
/-- Past a block's first step the mask is still the block's. -/
theorem kept8 (hs : 0 < t.val % 12) (Y : FVec F S512x8 .f32) (h : (rdat m c).Finds 8 t Y) : Y = mkOf m c (t.val / 12) := by
  rcases ((rdat m c).finds_of_pos (w := 8) (t := t) rfl (by omega) Y).mp h with hf | ⟨Y', _, hL⟩
  · exact absurd ((flush0_8 _).mp hf) (by show ¬ (t.val - 1) % 12 = 11; omega)
  · have hL' : Y = mkOf m c ((t.val - 1) / 12) := hL
    rw [hL', show (t.val - 1) / 12 = t.val / 12 by omega]

/-! ## What the body leaves, from what it finds -/

/-- The stack after a middle step. -/
abbrev stackRaw (d11 : FVec F S4x8x512x256 .bf16) (o : FVec F S512x1024 .f32) (mk : FVec F S512x8 .f32) : FVec F S4x8x512x256 .bf16 :=
  VecWindow.put (s := S4x8x512x256) (VecWindow.put (s := S4x8x512x256) (VecWindow.put (s := S4x8x512x256) (VecWindow.put (s := S4x8x512x256) d11
    (k0_off5 (grid0.coords t)) S1x1x512x256.size (k0_pay29 (BitVec.ofNat 32 (grid0.coords t 1).val) o mk))
    (k0_off6 (grid0.coords t)) S1x1x512x256.size (k0_pay30 (BitVec.ofNat 32 (grid0.coords t 1).val) o mk))
    (k0_off7 (grid0.coords t)) S1x1x512x256.size (k0_pay31 (BitVec.ofNat 32 (grid0.coords t 1).val) o mk))
    (k0_off8 (grid0.coords t)) S1x1x512x256.size (k0_pay6 (k0_pay32 (BitVec.ofNat 32 (grid0.coords t 1).val) o mk))
/-- The stack after the step that follows the last expert. -/
abbrev turnRaw (d11 : FVec F S4x8x512x256 .bf16) (o : FVec F S512x1024 .f32) (mk : FVec F S512x8 .f32) : FVec F S4x8x512x256 .bf16 :=
  VecWindow.put (s := S4x8x512x256) (VecWindow.put (s := S4x8x512x256) (VecWindow.put (s := S4x8x512x256) (VecWindow.put (s := S4x8x512x256) d11
    ![0, 7, 0, 0] S1x1x512x256.size (k0_pay36 o mk)) ![1, 7, 0, 0] S1x1x512x256.size (k0_pay37 o mk)) ![2, 7, 0, 0] S1x1x512x256.size (k0_pay38 o mk))
    ![3, 7, 0, 0] S1x1x512x256.size (k0_pay9 (k0_pay39 o mk))

/-- A middle step writes the four column chunks of the previous expert's row of the stack. -/
theorem stackRaw_eq (hs : 0 < t.val % 12) (d11 : FVec F S4x8x512x256 .bf16) (o : FVec F S512x1024 .f32) (mk : FVec F S512x8 .f32) :
    stackRaw t d11 o mk = putRow d11 (t.val % 12 - 1) fun k => chunk k (BitVec.ofNat 32 (t.val % 12 - 1 + 1)) o mk := by
  unfold stackRaw putRow
  rw [off5_eq t hs, off6_eq t hs, off7_eq t hs, off8_eq t hs, step_eq t, Nat.sub_add_cancel hs]
  rfl

/-- The first chunk written after the last expert is the middle step's, at step eight. -/
theorem pay36_eq (o : FVec F S512x1024 .f32) (mk : FVec F S512x8 .f32) : k0_pay36 o mk = k0_pay29 8#32 o mk := rfl
/-- The second chunk written after the last expert is the middle step's, at step eight. -/
theorem pay37_eq (o : FVec F S512x1024 .f32) (mk : FVec F S512x8 .f32) : k0_pay37 o mk = k0_pay30 8#32 o mk := rfl
/-- The third chunk written after the last expert is the middle step's, at step eight. -/
theorem pay38_eq (o : FVec F S512x1024 .f32) (mk : FVec F S512x8 .f32) : k0_pay38 o mk = k0_pay31 8#32 o mk := rfl
/-- The fourth chunk written after the last expert is the middle step's, at step eight. -/
theorem pay39_eq (o : FVec F S512x1024 .f32) (mk : FVec F S512x8 .f32) : k0_pay9 (k0_pay39 o mk) = k0_pay6 (k0_pay32 8#32 o mk) := rfl
/-- The routing weight read after the last expert is the middle step's, at step eight. -/
theorem pay34_eq (r : FVec F S512x8 .f32) : k0_pay34 r = k0_pay27 8#32 r := rfl
/-- The masked output after the last expert is the middle step's, at step eight. -/
theorem pay35_eq (o : FVec F S512x1024 .f32) (mk : FVec F S512x8 .f32) : k0_pay35 o mk = k0_pay28 8#32 o mk := rfl
/-- The running sum is updated after the last expert as at a middle step. -/
theorem pay10_eq (r : FVec F S512x1 .f32) (o d : FVec F S512x1024 .f32) : k0_pay10 r o d = k0_pay7 r o d := rfl
/-- A middle step computes an expert's output as a first step does. -/
theorem pay8_eq (x : FVec F S512x1024 .bf16) (a : FVec F S1x512x1024 .bf16) (b : FVec F S1x1024x512 .bf16) : k0_pay8 x a b = k0_pay5 x a b := rfl

/-- The step after the last expert writes the four column chunks of the last row of the stack. -/
theorem turnRaw_eq (d11 : FVec F S4x8x512x256 .bf16) (o : FVec F S512x1024 .f32) (mk : FVec F S512x8 .f32) :
    turnRaw d11 o mk = putRow d11 7 fun k => chunk k (BitVec.ofNat 32 (7 + 1)) o mk := by
  unfold turnRaw putRow
  rw [pay36_eq, pay37_eq, pay38_eq, pay39_eq]
  rfl

variable (Y : (w : Fin 9) → (cfg0.win w).block.Idx → Elt F (cfg0.win w).elt) (hY : ∀ w, (rdat m c).Finds w t (Y w))
  {d11 : FVec F S4x8x512x256 .bf16} {d12 : FVec F S8x512x1024 .bf16} {d13 : FVec F S8x1024x512 .bf16}
  {d14 : FVec F S512x1024 .bf16} {d15 : FVec F S512x1024 .f32} {d16 : FVec F S512x8 .f32}
  (hg : Good m c t.val d11 d12 d13 d14 d15 d16)

include hY hg

/-- The caches after a step of the first block. -/
theorem cast1 (h8 : t.val < 8) : ∀ e (he : e < 8), 0 < t.val / 12 ∨ e < t.val % 12 + 1 →
    VecWindow.window (s := S8x512x1024) (VecWindow.put (s := S8x512x1024) d12 (k0_off1 (grid0.coords t)) S1x512x1024.size (k0_pay1 (Y 1)))
      ![e, 0, 0] S1x512x1024.size (inb1 e he) = w1c m c e := by
  intro e he h
  rw [off1_eq t, put1 _ _ _ he]
  by_cases hx : e = t.val % 12
  · rw [if_pos hx]; subst hx; exact foundW1 m c t h8 (Y 1) (hY 1)
  · rw [if_neg hx]; exact hg.w1 e he (by omega)
/-- The cache of the second weights after a step of the first block. -/
theorem cast2 (h8 : t.val < 8) : ∀ e (he : e < 8), 0 < t.val / 12 ∨ e < t.val % 12 + 1 →
    VecWindow.window (s := S8x1024x512) (VecWindow.put (s := S8x1024x512) d13 (k0_off2 (grid0.coords t)) S1x1024x512.size (k0_pay2 (Y 2)))
      ![e, 0, 0] S1x1024x512.size (inb2 e he) = w2c m c e := by
  intro e he h
  rw [off2_eq t, put2 _ _ _ he]
  by_cases hx : e = t.val % 12
  · rw [if_pos hx]; subst hx; exact foundW2 m c t h8 (Y 2) (hY 2)
  · rw [if_neg hx]; exact hg.w2 e he (by omega)

/-- The first step of the first block leaves the scratch as the next point needs it. -/
theorem next_first_cast (hs : t.val % 12 = 0) (h8 : t.val < 8) :
    Good m c (t.val + 1) d11 (VecWindow.put (s := S8x512x1024) d12 (k0_off1 (grid0.coords t)) S1x512x1024.size (k0_pay1 (Y 1)))
      (VecWindow.put (s := S8x1024x512) d13 (k0_off2 (grid0.coords t)) S1x1024x512.size (k0_pay2 (Y 2)))
      (k0_pay3 (Y 0)) (k0_pay5 (k0_pay3 (Y 0)) (k0_pay1 (Y 1)) (k0_pay2 (Y 2))) (routeWeight (Y 3) (Y 4)) := by
  have key := good_first hs hg (cast1 m c t Y hY hg h8) (cast2 m c t Y hY hg h8)
  have e1 := foundW1 m c t h8 (Y 1) (hY 1); have e2 := foundW2 m c t h8 (Y 2) (hY 2)
  have e0 := foundX m c t hs (Y 0) (hY 0); have e3 := foundL m c t hs (Y 3) (hY 3); have e4 := foundG m c t hs (Y 4) (hY 4)
  rw [hs] at e1 e2
  unfold oOf rwOf at key
  rw [← e0, ← e1, ← e2, ← e3, ← e4] at key
  exact key

/-- The first step of a later block leaves the scratch as the next point needs it. -/
theorem next_first (hs : t.val % 12 = 0) (h8 : ¬ t.val < 8) (i1 i2) :
    Good m c (t.val + 1) d11 d12 d13
      (k0_pay3 (Y 0)) (k0_pay5 (k0_pay3 (Y 0)) (VecWindow.window (s := S8x512x1024) d12 (k0_off3 (grid0.coords t)) S1x512x1024.size i1)
        (VecWindow.window (s := S8x1024x512) d13 (k0_off4 (grid0.coords t)) S1x1024x512.size i2)) (routeWeight (Y 3) (Y 4)) := by
  have key := good_first hs hg (fun e he h => hg.w1 e he (by omega)) (fun e he h => hg.w2 e he (by omega))
  have e0 := foundX m c t hs (Y 0) (hY 0); have e3 := foundL m c t hs (Y 3) (hY 3); have e4 := foundG m c t hs (Y 4) (hY 4)
  unfold oOf rwOf at key
  rw [← e0, ← e3, ← e4, ← hg.w1 0 (by decide) (by omega), ← hg.w2 0 (by decide) (by omega)] at key
  rw [window_at (s := S8x512x1024) d12 S1x512x1024.size (off3_eq t |>.trans (by rw [hs])) i1 (inb1 0 (by decide)),
    window_at (s := S8x1024x512) d13 S1x1024x512.size (off4_eq t |>.trans (by rw [hs])) i2 (inb2 0 (by decide))]
  exact key

omit hg in
/-- A first step leaves the running sum at zero. -/
theorem left6_first (hs : t.val % 12 = 0) : (k0_pay4 (F := F)) = finOf m c (t.val / 12) (t.val % 12) := by rw [hs]; rfl
omit hg in
/-- A first step leaves the block's gated logits. -/
theorem left7_first (hs : t.val % 12 = 0) : k0_pay13 (Y 3) (Y 4) = preOf m c (t.val / 12) := by
  have e3 := foundL m c t hs (Y 3) (hY 3); have e4 := foundG m c t hs (Y 4) (hY 4)
  unfold preOf; rw [← e3, ← e4]
omit hg in
/-- A first step leaves the block's mask. -/
theorem left8_first (hs : t.val % 12 = 0) : routeMask (Y 3) (Y 4) = mkOf m c (t.val / 12) := by
  have e3 := foundL m c t hs (Y 3) (hY 3); have e4 := foundG m c t hs (Y 4) (hY 4)
  unfold mkOf; rw [← e3, ← e4]

/-- The stack after a middle step, at the values held. -/
theorem stack_steady (hs : 0 < t.val % 12) (hs8 : t.val % 12 < 8) :
    stackRaw t d11 d15 (Y 8) = putRow d11 (t.val % 12 - 1) fun k => chOf m c (t.val / 12) k (t.val % 12 - 1) := by
  have e8 := kept8 m c t hs (Y 8) (hY 8)
  have e15 := hg.op hs (by omega)
  rw [stackRaw_eq t hs]
  unfold chOf
  rw [← e15, ← e8]

/-- A middle step of the first block leaves the scratch as the next point needs it. -/
theorem next_steady_cast (hs : 0 < t.val % 12) (hs8 : t.val % 12 < 8) (h8 : t.val < 8) :
    Good m c (t.val + 1) (stackRaw t d11 d15 (Y 8)) (VecWindow.put (s := S8x512x1024) d12 (k0_off1 (grid0.coords t)) S1x512x1024.size (k0_pay1 (Y 1)))
      (VecWindow.put (s := S8x1024x512) d13 (k0_off2 (grid0.coords t)) S1x1024x512.size (k0_pay2 (Y 2)))
      d14 (k0_pay8 d14 (k0_pay1 (Y 1)) (k0_pay2 (Y 2))) d16 := by
  have key := good_steady hs hs8 hg (cast1 m c t Y hY hg h8) (cast2 m c t Y hY hg h8)
  have e1 := foundW1 m c t h8 (Y 1) (hY 1); have e2 := foundW2 m c t h8 (Y 2) (hY 2)
  rw [← stack_steady m c t Y hY hg hs hs8] at key
  unfold oOf at key
  rw [← e1, ← e2, ← hg.xb hs] at key
  rw [pay8_eq]; exact key

/-- A middle step of a later block leaves the scratch as the next point needs it. -/
theorem next_steady (hs : 0 < t.val % 12) (hs8 : t.val % 12 < 8) (h8 : ¬ t.val < 8) (i1 i2) :
    Good m c (t.val + 1) (stackRaw t d11 d15 (Y 8)) d12 d13
      d14 (k0_pay8 d14 (VecWindow.window (s := S8x512x1024) d12 (k0_off9 (grid0.coords t)) S1x512x1024.size i1)
        (VecWindow.window (s := S8x1024x512) d13 (k0_off10 (grid0.coords t)) S1x1024x512.size i2)) d16 := by
  have key := good_steady hs hs8 hg (fun e he h => hg.w1 e he (by omega)) (fun e he h => hg.w2 e he (by omega))
  rw [← stack_steady m c t Y hY hg hs hs8] at key
  unfold oOf at key
  rw [← hg.w1 _ hs8 (by omega), ← hg.w2 _ hs8 (by omega), ← hg.xb hs] at key
  rw [pay8_eq, window_at (s := S8x512x1024) d12 S1x512x1024.size (off9_eq t) i1 (inb1 _ hs8),
    window_at (s := S8x1024x512) d13 S1x1024x512.size (off10_eq t) i2 (inb2 _ hs8)]
  exact key

/-- A middle step leaves the running sum with one more expert in it. -/
theorem left6_steady (hs : 0 < t.val % 12) (hs8 : t.val % 12 < 8) :
    k0_pay7 (k0_pay27 (BitVec.ofNat 32 (grid0.coords t 1).val) d16) (k0_pay28 (BitVec.ofNat 32 (grid0.coords t 1).val) d15 (Y 8)) (Y 6)
      = finOf m c (t.val / 12) (t.val % 12) := by
  have e6 := kept6 m c t hs (Y 6) (hY 6)
  have e8 := kept8 m c t hs (Y 8) (hY 8)
  have e15 := hg.op hs (by omega)
  have e16 := hg.rw hs
  rw [step_eq t]
  obtain ⟨s, hs'⟩ : ∃ s, t.val % 12 = s + 1 := ⟨t.val % 12 - 1, by omega⟩
  rw [hs', Nat.add_sub_cancel] at e6 e15
  rw [hs', finOf, if_pos (by omega), ← e6, ← e8, ← e15, ← e16]

/-- The step after the last expert leaves the scratch as the next point needs it. -/
theorem next_turn (hs : t.val % 12 = 8) : Good m c (t.val + 1) (turnRaw d11 d15 (Y 8)) d12 d13 d14 d15 d16 := by
  have key := good_turn hs hg
  have e8 := kept8 m c t (by omega) (Y 8) (hY 8)
  have e15 := hg.op (by omega) (by omega)
  rw [hs] at e15
  rw [turnRaw_eq]
  unfold chOf at key
  rw [show oOf m c (t.val / 12) 7 = d15 from e15.symm, ← e8] at key
  exact key

/-- The step after the last expert leaves the whole sum. -/
theorem left6_turn (hs : t.val % 12 = 8) :
    k0_pay10 (k0_pay34 d16) (k0_pay35 d15 (Y 8)) (Y 6) = finOf m c (t.val / 12) (t.val % 12) := by
  have e6 := kept6 m c t (by omega) (Y 6) (hY 6)
  have e8 := kept8 m c t (by omega) (Y 8) (hY 8)
  have e15 := hg.op (by omega) (by omega)
  have e16 := hg.rw (by omega)
  rw [hs] at e6 e15
  rw [hs, finOf, if_pos (by omega), pay34_eq, pay35_eq, pay10_eq]
  rw [show oOf m c (t.val / 12) 7 = d15 from e15.symm, show finOf m c (t.val / 12) 7 = Y 6 from e6.symm, ← e8, ← e16]

/-- The step after the last expert writes back the first column chunk of the masked outputs. -/
theorem left5_turn (hs : t.val % 12 = 8) (i1) :
    8 ≤ t.val % 12 → k0_pay11 (VecWindow.window (s := S4x8x512x256) (turnRaw d11 d15 (Y 8)) (k0_off11 (grid0.coords t)) S1x8x512x256.size i1)
      = outOf m c (t.val / 12) (t.val % 12 - 8) := by
  intro h
  have hn := next_turn m c t Y hY hg hs
  unfold outOf
  rw [window_at (s := S4x8x512x256) _ S1x8x512x256.size (off11_eq t h) i1 (inb11 _ (by omega)),
    gathered m c (t.val / 12) (t.val % 12 - 8) (by omega) _ (fun e he => by
      have := hn.st (t.val % 12 - 8) (by omega) e he (by omega)
      rwa [show (t.val + 1) / 12 = t.val / 12 by omega] at this)]

omit hY in
/-- A last step leaves the scratch as it is. -/
theorem next_flush (hs : 8 < t.val % 12) : Good m c (t.val + 1) d11 d12 d13 d14 d15 d16 := good_flush hs hg

omit hY in
/-- A last step writes back its column chunk of the masked outputs. -/
theorem left5_flush (hs : 8 < t.val % 12) (i1) :
    8 ≤ t.val % 12 → k0_pay11 (VecWindow.window (s := S4x8x512x256) d11 (k0_off11 (grid0.coords t)) S1x8x512x256.size i1)
      = outOf m c (t.val / 12) (t.val % 12 - 8) := by
  intro h
  unfold outOf
  rw [window_at (s := S4x8x512x256) _ S1x8x512x256.size (off11_eq t h) i1 (inb11 _ (by omega)),
    gathered m c (t.val / 12) (t.val % 12 - 8) (by omega) _ (fun e he => hg.st (t.val % 12 - 8) (by omega) e he (by omega))]

omit hg in
/-- A last step leaves the sum as it is. -/
theorem left6_flush (hs : 8 < t.val % 12) : (Y 6 : FVec F S512x1024 .f32) = finOf m c (t.val / 12) (t.val % 12) := by
  have e6 := kept6 m c t (by omega) (Y 6) (hY 6)
  obtain ⟨s, hs'⟩ : ∃ s, t.val % 12 = s + 1 := ⟨t.val % 12 - 1, by omega⟩
  rw [hs', Nat.add_sub_cancel] at e6
  rw [hs', finOf, if_neg (by omega)]; exact e6

omit hY hg

/-- What the body is called with at a point. -/
def bodyPre (Y : (w : Fin 9) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1) ∗ owns (c : Thread nD τ) (st0_2 t) fullShare (Y 2)
    ∗ owns (c : Thread nD τ) (st0_3 t) fullShare (Y 3) ∗ owns (c : Thread nD τ) (st0_4 t) fullShare (Y 4) ∗ owns (c : Thread nD τ) (st0_5 t) fullShare (Y 5)
    ∗ owns (c : Thread nD τ) (st0_6 t) fullShare (Y 6) ∗ owns (c : Thread nD τ) (st0_7 t) fullShare (Y 7) ∗ owns (c : Thread nD τ) (st0_8 t) fullShare (Y 8))
/-- What it returns there. -/
def bodyPost (Y : (w : Fin 9) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X))

omit Y t

set_option maxHeartbeats 1000000 in
/-- The first step of the first block. -/
theorem sound_first_cast (t : Fin cfg0.N) (hs : t.val % 12 = 0) (h8 : t.val < 8)
    (Y : (w : Fin 9) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.castSucc = Phi m c t.val from rfl, show (rdat m c).Φ t.succ = Phi m c (t.val + 1) from rfl, show (rdat m c).owesAt () t.succ = (rdat m c).owesAt () t.castSucc from rfl]
  unfold Phi
  iintro ⟨⟨%d11, %d12, %d13, %d14, %d15, %d16, %hg, H11, H12, H13, H14, H15, H16, HR⟩, HO, H2, H3, H4, H5, H6, H7, H8, H9, H10⟩
  iapply (run_first_cast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) ((cond1_iff t).mpr h8) ((cond2_iff t).mpr hs) (fun h => by have := (cond3_iff t).mp h; omega) (fun h => by have := (cond4_iff t).mp h; omega) (Y 0) (Y 1) (Y 2) (Y 3) (Y 4) (Y 6) (Y 7) (Y 8) d12 d13 d14 d15 d16 _)
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H12]; · iexact H12
  isplitl [H13]; · iexact H13
  isplitl [H14]; · iexact H14
  isplitl [H15]; · iexact H15
  isplitl [H16]; · iexact H16
  iintro ⟨H2, H3, H4, H5, H6, H8, H9, H10, H12, H13, H14, H15, H16⟩
  isplitl [H11 H12 H13 H14 H15 H16 HR]
  · iexists _, _, _, _, _, _; isplitr; swap
    · isplitl [H11]; · iexact H11
      isplitl [H12]; · iexact H12
      isplitl [H13]; · iexact H13
      isplitl [H14]; · iexact H14
      isplitl [H15]; · iexact H15
      isplitl [H16]; · iexact H16
      iexact HR
    ipureintro; exact next_first_cast m c t Y hY hg hs h8
  isplitl [HO]; · iexact HO
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact fun h => absurd h (by omega)
  isplitl [H8]
  · iexists _; isplitr; swap; · iexact H8
    ipureintro; exact left6_first m c t Y hY hs
  isplitl [H9]
  · iexists _; isplitr; swap; · iexact H9
    ipureintro; exact left7_first m c t Y hY hs
  iexists _; isplitr; swap; · iexact H10
  ipureintro; exact left8_first m c t Y hY hs

set_option maxHeartbeats 1000000 in
/-- The first step of a later block. -/
theorem sound_first (t : Fin cfg0.N) (hs : t.val % 12 = 0) (h8 : ¬ t.val < 8)
    (Y : (w : Fin 9) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.castSucc = Phi m c t.val from rfl, show (rdat m c).Φ t.succ = Phi m c (t.val + 1) from rfl, show (rdat m c).owesAt () t.succ = (rdat m c).owesAt () t.castSucc from rfl]
  unfold Phi
  iintro ⟨⟨%d11, %d12, %d13, %d14, %d15, %d16, %hg, H11, H12, H13, H14, H15, H16, HR⟩, HO, H2, H3, H4, H5, H6, H7, H8, H9, H10⟩
  iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun h => h8 ((cond1_iff t).mp h)) ((cond2_iff t).mpr hs) (fun h => by have := (cond3_iff t).mp h; omega) (fun h => by have := (cond4_iff t).mp h; omega) (Y 0) (Y 3) (Y 4) (Y 6) (Y 7) (Y 8) d12 d13 d14 d15 d16 _)
  isplitl [H2]; · iexact H2
  isplitl [H5]; · iexact H5
  isplitl [H6]; · iexact H6
  isplitl [H8]; · iexact H8
  isplitl [H9]; · iexact H9
  isplitl [H10]; · iexact H10
  isplitl [H12]; · iexact H12
  isplitl [H13]; · iexact H13
  isplitl [H14]; · iexact H14
  isplitl [H15]; · iexact H15
  isplitl [H16]; · iexact H16
  iintro ⟨H2, H5, H6, H8, H9, H10, H12, H13, H14, H15, H16⟩
  isplitl [H11 H12 H13 H14 H15 H16 HR]
  · iexists _, _, _, _, _, _; isplitr; swap
    · isplitl [H11]; · iexact H11
      isplitl [H12]; · iexact H12
      isplitl [H13]; · iexact H13
      isplitl [H14]; · iexact H14
      isplitl [H15]; · iexact H15
      isplitl [H16]; · iexact H16
      iexact HR
    ipureintro; exact next_first m c t Y hY hg hs h8 _ _
  isplitl [HO]; · iexact HO
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact fun h => absurd h (by omega)
  isplitl [H8]
  · iexists _; isplitr; swap; · iexact H8
    ipureintro; exact left6_first m c t Y hY hs
  isplitl [H9]
  · iexists _; isplitr; swap; · iexact H9
    ipureintro; exact left7_first m c t Y hY hs
  iexists _; isplitr; swap; · iexact H10
  ipureintro; exact left8_first m c t Y hY hs

set_option maxHeartbeats 1000000 in
/-- A middle step of the first block. -/
theorem sound_steady_cast (t : Fin cfg0.N) (hs : 0 < t.val % 12) (hs8 : t.val % 12 < 8) (h8 : t.val < 8)
    (Y : (w : Fin 9) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.castSucc = Phi m c t.val from rfl, show (rdat m c).Φ t.succ = Phi m c (t.val + 1) from rfl, show (rdat m c).owesAt () t.succ = (rdat m c).owesAt () t.castSucc from rfl]
  unfold Phi
  iintro ⟨⟨%d11, %d12, %d13, %d14, %d15, %d16, %hg, H11, H12, H13, H14, H15, H16, HR⟩, HO, H2, H3, H4, H5, H6, H7, H8, H9, H10⟩
  iapply (run_steady_cast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) ((cond1_iff t).mpr h8) (fun h => by have := (cond2_iff t).mp h; omega) ((cond3_iff t).mpr ⟨hs, hs8⟩) (fun h => by have := (cond4_iff t).mp h; omega) (Y 1) (Y 2) (Y 6) (Y 8) d11 d12 d13 d14 d15 d16 _)
  isplitl [H3]; · iexact H3
  isplitl [H4]; · iexact H4
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H8, H10, H11, H12, H13, H14, H15, H16⟩
  isplitl [H11 H12 H13 H14 H15 H16 HR]
  · iexists _, _, _, _, _, _; isplitr; swap
    · isplitl [H11]; · iexact H11
      isplitl [H12]; · iexact H12
      isplitl [H13]; · iexact H13
      isplitl [H14]; · iexact H14
      isplitl [H15]; · iexact H15
      isplitl [H16]; · iexact H16
      iexact HR
    ipureintro; exact next_steady_cast m c t Y hY hg hs hs8 h8
  isplitl [HO]; · iexact HO
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact fun h => absurd h (by omega)
  isplitl [H8]
  · iexists _; isplitr; swap; · iexact H8
    ipureintro; exact left6_steady m c t Y hY hg hs hs8
  isplitl [H9]
  · iexists _; isplitr; swap; · iexact H9
    ipureintro; exact kept7 m c t (by omega) (Y 7) (hY 7)
  iexists _; isplitr; swap; · iexact H10
  ipureintro; exact kept8 m c t (by omega) (Y 8) (hY 8)

set_option maxHeartbeats 1000000 in
/-- A middle step of a later block. -/
theorem sound_steady (t : Fin cfg0.N) (hs : 0 < t.val % 12) (hs8 : t.val % 12 < 8) (h8 : ¬ t.val < 8)
    (Y : (w : Fin 9) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.castSucc = Phi m c t.val from rfl, show (rdat m c).Φ t.succ = Phi m c (t.val + 1) from rfl, show (rdat m c).owesAt () t.succ = (rdat m c).owesAt () t.castSucc from rfl]
  unfold Phi
  iintro ⟨⟨%d11, %d12, %d13, %d14, %d15, %d16, %hg, H11, H12, H13, H14, H15, H16, HR⟩, HO, H2, H3, H4, H5, H6, H7, H8, H9, H10⟩
  iapply (run_steady c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun h => h8 ((cond1_iff t).mp h)) (fun h => by have := (cond2_iff t).mp h; omega) ((cond3_iff t).mpr ⟨hs, hs8⟩) (fun h => by have := (cond4_iff t).mp h; omega) (Y 6) (Y 8) d11 d12 d13 d14 d15 d16 _)
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H8, H10, H11, H12, H13, H14, H15, H16⟩
  isplitl [H11 H12 H13 H14 H15 H16 HR]
  · iexists _, _, _, _, _, _; isplitr; swap
    · isplitl [H11]; · iexact H11
      isplitl [H12]; · iexact H12
      isplitl [H13]; · iexact H13
      isplitl [H14]; · iexact H14
      isplitl [H15]; · iexact H15
      isplitl [H16]; · iexact H16
      iexact HR
    ipureintro; exact next_steady m c t Y hY hg hs hs8 h8 _ _
  isplitl [HO]; · iexact HO
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact fun h => absurd h (by omega)
  isplitl [H8]
  · iexists _; isplitr; swap; · iexact H8
    ipureintro; exact left6_steady m c t Y hY hg hs hs8
  isplitl [H9]
  · iexists _; isplitr; swap; · iexact H9
    ipureintro; exact kept7 m c t (by omega) (Y 7) (hY 7)
  iexists _; isplitr; swap; · iexact H10
  ipureintro; exact kept8 m c t (by omega) (Y 8) (hY 8)

set_option maxHeartbeats 1000000 in
/-- The step after the last expert. -/
theorem sound_turn (t : Fin cfg0.N) (hs : t.val % 12 = 8)
    (Y : (w : Fin 9) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.castSucc = Phi m c t.val from rfl, show (rdat m c).Φ t.succ = Phi m c (t.val + 1) from rfl, show (rdat m c).owesAt () t.succ = (rdat m c).owesAt () t.castSucc from rfl]
  unfold Phi
  iintro ⟨⟨%d11, %d12, %d13, %d14, %d15, %d16, %hg, H11, H12, H13, H14, H15, H16, HR⟩, HO, H2, H3, H4, H5, H6, H7, H8, H9, H10⟩
  iapply (run_turn c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun h => by have := (cond1_iff t).mp h; omega) (fun h => by have := (cond2_iff t).mp h; omega) (fun h => by have := (cond3_iff t).mp h; omega) ((cond4_iff t).mpr (by omega)) ((cond5_iff t).mpr hs) (Y 5) (Y 6) (Y 8) d11 d15 d16 _)
  isplitl [H7]; · iexact H7
  isplitl [H8]; · iexact H8
  isplitl [H10]; · iexact H10
  isplitl [H11]; · iexact H11
  isplitl [H15]; · iexact H15
  isplitl [H16]; · iexact H16
  iintro ⟨H7, H8, H10, H11, H15, H16⟩
  isplitl [H11 H12 H13 H14 H15 H16 HR]
  · iexists _, _, _, _, _, _; isplitr; swap
    · isplitl [H11]; · iexact H11
      isplitl [H12]; · iexact H12
      isplitl [H13]; · iexact H13
      isplitl [H14]; · iexact H14
      isplitl [H15]; · iexact H15
      isplitl [H16]; · iexact H16
      iexact HR
    ipureintro; exact next_turn m c t Y hY hg hs
  isplitl [HO]; · iexact HO
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact left5_turn m c t Y hY hg hs _
  isplitl [H8]
  · iexists _; isplitr; swap; · iexact H8
    ipureintro; exact left6_turn m c t Y hY hg hs
  isplitl [H9]
  · iexists _; isplitr; swap; · iexact H9
    ipureintro; exact kept7 m c t (by omega) (Y 7) (hY 7)
  iexists _; isplitr; swap; · iexact H10
  ipureintro; exact kept8 m c t (by omega) (Y 8) (hY 8)

set_option maxHeartbeats 1000000 in
/-- One of the last three steps of a block. -/
theorem sound_flush (t : Fin cfg0.N) (hs : 8 < t.val % 12)
    (Y : (w : Fin 9) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.castSucc = Phi m c t.val from rfl, show (rdat m c).Φ t.succ = Phi m c (t.val + 1) from rfl, show (rdat m c).owesAt () t.succ = (rdat m c).owesAt () t.castSucc from rfl]
  unfold Phi
  iintro ⟨⟨%d11, %d12, %d13, %d14, %d15, %d16, %hg, H11, H12, H13, H14, H15, H16, HR⟩, HO, H2, H3, H4, H5, H6, H7, H8, H9, H10⟩
  iapply (run_flush c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun h => by have := (cond1_iff t).mp h; omega) (fun h => by have := (cond2_iff t).mp h; omega) (fun h => by have := (cond3_iff t).mp h; omega) ((cond4_iff t).mpr (by omega)) (fun h => by have := (cond5_iff t).mp h; omega) (Y 5) d11 _)
  isplitl [H7]; · iexact H7
  isplitl [H11]; · iexact H11
  iintro ⟨H7, H11⟩
  isplitl [H11 H12 H13 H14 H15 H16 HR]
  · iexists _, _, _, _, _, _; isplitr; swap
    · isplitl [H11]; · iexact H11
      isplitl [H12]; · iexact H12
      isplitl [H13]; · iexact H13
      isplitl [H14]; · iexact H14
      isplitl [H15]; · iexact H15
      isplitl [H16]; · iexact H16
      iexact HR
    ipureintro; exact next_flush m c t hg hs
  isplitl [HO]; · iexact HO
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact left5_flush m c t hg hs _
  isplitl [H8]
  · iexists _; isplitr; swap; · iexact H8
    ipureintro; exact left6_flush m c t Y hY hs
  isplitl [H9]
  · iexists _; isplitr; swap; · iexact H9
    ipureintro; exact kept7 m c t (by omega) (Y 7) (hY 7)
  iexists _; isplitr; swap; · iexact H10
  ipureintro; exact kept8 m c t (by omega) (Y 8) (hY 8)

/-- What the launch calls at a point is the body at that point. -/
theorem defs₀_row (t : Fin cfg0.N) : defs₀ (F := F) .tc cfg0.body (cfg0.bodyArgs t (cfg0.slots t)) = bodyAt0 t := by
  unfold defs₀; rw [Defs.onTc_tc]

/-- The body at any point. -/
theorem sound (t : Fin cfg0.N) (Y : (w : Fin 9) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  by_cases h0 : t.val % 12 = 0
  · by_cases h8 : t.val < 8
    · exact sound_first_cast m c t h0 h8 Y hY
    · exact sound_first m c t h0 h8 Y hY
  · by_cases h1 : t.val % 12 < 8
    · by_cases h8 : t.val < 8
      · exact sound_steady_cast m c t (by omega) h1 h8 Y hY
      · exact sound_steady m c t (by omega) h1 h8 Y hY
    · by_cases h2 : t.val % 12 = 8
      · exact sound_turn m c t h2 Y hY
      · exact sound_flush m c t (by omega) Y hY

/-- The body obligation of the pipeline. -/
theorem body_obligation : (rdat m c).BodyObligation (defs₀ (F := F)) Variants.none () Set.univ := fun t Y hY => by
  rw [bigSep_W0, bigSep_W0, defs₀_row]
  exact triple_restated (sound m c t Y hY) rfl .rfl fun _ => .rfl

/-- Before the first point the scratch buffers hold anything. -/
theorem enter : Pipeline.ΦA spec0 c ⊢ (rdat m c).Φ 0 := by
  rw [show (rdat m c).Φ 0 = Phi m c 0 from rfl]
  unfold Pipeline.ΦA Phi
  rw [scopedRest0_eq]
  simp only [owns_whole]
  iintro ⟨⟨⟨%f0, H0⟩, ⟨%f1, H1⟩, ⟨%f2, H2⟩, ⟨%f3, H3⟩, ⟨%f4, H4⟩, ⟨%f5, H5⟩⟩, HR⟩
  iexists f0, f1, f2, f3, f4, f5
  isplitr; · ipureintro; exact good_zero m c _ _ _ _ _ _
  isplitl [H0]; · iexact H0
  isplitl [H1]; · iexact H1
  isplitl [H2]; · iexact H2
  isplitl [H3]; · iexact H3
  isplitl [H4]; · iexact H4
  isplitl [H5]; · iexact H5
  iexact HR

/-- After the last point what they hold is forgotten. -/
theorem leave : (rdat m c).Φ (Fin.last cfg0.N) ⊢ Pipeline.ΦA spec0 c := by
  rw [show (rdat m c).Φ (Fin.last cfg0.N) = Phi m c cfg0.N from rfl]
  unfold Pipeline.ΦA Phi
  rw [scopedRest0_eq]
  simp only [owns_whole]
  iintro ⟨%f0, %f1, %f2, %f3, %f4, %f5, -, H0, H1, H2, H3, H4, H5, HR⟩
  isplitr [HR]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact HR

-- the launch's implicit arguments are found by unification, which may unfold plain definitions in a variable's type
set_option backward.isDefEq.respectTransparency.types false in
/-- Every run of the program ends, with every array at what the proof data says and every counter at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl)
    (hin := fun c => enter m c) (hout := fun c => leave m c) (hQ' := fun _ h => h)

/-- The frame: every run ends with the arguments as launched. -/
theorem frame_main :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ Pipeline.RDat.FramePost (cfgs 0) (fun c => rdat m c) (V m) r) :=
  (θ_run defs _ _).mono (fun r h => ⟨⟨fun c => ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 1 rfl).trans (V_main_arg3 m c),
      (Pipeline.RDat.FramePost.arr_in h.1 c 2 rfl).trans (V_main_arg4 m c)⟩, h.2⟩, h.1⟩) (run_main m ρ)

end Cert.KernelIdeal.Hand

end
-- ==== Proof.V.Rank.lean ====
module

public import Idealize.ShloMosaic.Lib.Pointwise
public import Idealize.ShloMosaic.Lib.SortFacts
public import Idealize.ShloMosaic.Lib.ScatterToDense.RefScatter

@[expose] public section

set_option maxRecDepth 16384

noncomputable section

namespace Cert.Spec

open Idealize.ShloMosaic
open scoped Classical

/-- Entry `k` of a row comes before entry `e`: it is greater, or it ties and stands to the left. -/
def Before {n : ℕ} (L : Fin n → EReal) (k e : Fin n) : Prop := L e < L k ∨ (L k = L e ∧ k < e)

/-- How many entries of a row come before entry `e`. -/
def rank {n : ℕ} (L : Fin n → EReal) (e : Fin n) : ℕ := (Finset.univ.filter fun k => Before L k e).card

/-- `Before` as a truth value. -/
def beforeB {n : ℕ} (L : Fin n → EReal) (k e : Fin n) : Bool := decide (Before L k e)

/-- The order a top-k sorts a row by: strictly greater first. -/
def gtB {n : ℕ} (L : Fin n → EReal) (k e : Fin n) : Bool := FloatOps.cmpfTotal (F := Ideal) (φ := .f32) .gt (L k) (L e) == 1#1

/-- `gtB` is the strict comparison. -/
theorem gtB_iff {n : ℕ} (L : Fin n → EReal) (k e : Fin n) : gtB L k e = true ↔ L e < L k := by
  have h : FloatOps.cmpfTotal (F := Ideal) (φ := .f32) .gt (L k) (L e) = BitVec.ofBool (decide (L e < L k)) := rfl
  unfold gtB
  rw [h]
  by_cases q : L e < L k <;> simp [q]

/-- `beforeB` decides `Before`. -/
theorem beforeB_iff {n : ℕ} (L : Fin n → EReal) (k e : Fin n) : beforeB L k e = true ↔ Before L k e := by
  unfold beforeB; exact decide_eq_true_iff

/-- Nothing comes before itself. -/
theorem before_irrefl {n : ℕ} (L : Fin n → EReal) (a : Fin n) : ¬ Before L a a := by
  rintro (h | ⟨_, h⟩)
  · exact lt_irrefl _ h
  · exact lt_irrefl _ h

/-- Two entries are not each before the other. -/
theorem before_asymm {n : ℕ} (L : Fin n → EReal) (a b : Fin n) (h : Before L a b) : ¬ Before L b a := by
  rcases h with h | ⟨h, h'⟩ <;> rintro (g | ⟨g, g'⟩)
  · exact lt_asymm h g
  · rw [g] at h; exact lt_irrefl _ h
  · rw [h] at g; exact lt_irrefl _ g
  · exact lt_asymm h' g'

/-- Of two distinct entries one comes before the other. -/
theorem before_total {n : ℕ} (L : Fin n → EReal) (a b : Fin n) (h : a ≠ b) : Before L a b ∨ Before L b a := by
  rcases lt_trichotomy (L a) (L b) with q | q | q
  · exact Or.inr (Or.inl q)
  · rcases lt_or_gt_of_ne h with p | p
    · exact Or.inl (Or.inr ⟨q, p⟩)
    · exact Or.inr (Or.inr ⟨q.symm, p⟩)
  · exact Or.inl (Or.inl q)

/-- If `a` is not before `b` and `b` is not before `c` then `a` is not before `c`. -/
theorem before_negTrans {n : ℕ} (L : Fin n → EReal) (a b c : Fin n) (h : ¬ Before L a b) (g : ¬ Before L b c) : ¬ Before L a c := by
  unfold Before at *
  push Not at h g ⊢
  obtain ⟨h1, h2⟩ := h
  obtain ⟨g1, g2⟩ := g
  refine ⟨h1.trans g1, fun q => ?_⟩
  have e1 : L a = L b := le_antisymm h1 (by rw [q]; exact g1)
  exact (g2 (e1.symm.trans q)).trans (h2 e1)

/-- Inserting an entry left of every entry of a list, the two orders act alike. -/
theorem insert_eq {n : ℕ} (L : Fin n → EReal) (a : Fin n) (l : List (Fin n)) (h : ∀ b ∈ l, a < b) :
    insertBefore (gtB L) a l = insertBefore (beforeB L) a l := by
  induction l with
  | nil => rfl
  | cons b l ih =>
    have hb : gtB L b a = beforeB L b a := by
      rw [Bool.eq_iff_iff, gtB_iff, beforeB_iff]
      refine ⟨Or.inl, fun q => ?_⟩
      rcases q with q | ⟨_, q⟩
      · exact q
      · exact absurd q (lt_asymm (h b List.mem_cons_self))
    unfold insertBefore
    rw [hb, ih fun c hc => h c (List.mem_cons_of_mem _ hc)]

/-- On an increasing list of positions the stable sort by strictly greater is the sort by `Before`. -/
theorem stable_eq {n : ℕ} (L : Fin n → EReal) (l : List (Fin n)) (h : l.Pairwise (· < ·)) :
    stableSort (gtB L) l = stableSort (beforeB L) l := by
  induction l with
  | nil => rfl
  | cons a l ih =>
    rw [List.pairwise_cons] at h
    unfold stableSort
    rw [ih h.2]
    exact insert_eq L a _ fun b hb => h.1 b ((perm_stableSort _ _).mem_iff.mp hb)

/-- The two sorting permutations of a row are one. -/
theorem sorted_eq {n : ℕ} (L : Fin n → EReal) : sortedFrom (gtB L) = sortedFrom (beforeB L) := by
  funext k
  unfold sortedFrom
  rw [List.get_of_eq (show sortPositions n (gtB L) = sortPositions n (beforeB L) from stable_eq L _ (List.pairwise_lt_finRange n))]
  rfl

/-- A later place of the sorted row holds no entry before an earlier place's. -/
theorem sorted_noInv {n : ℕ} (L : Fin n → EReal) (i j : Fin n) (h : i < j) :
    ¬ Before L (sortedFrom (gtB L) j) (sortedFrom (gtB L) i) := by
  rw [sorted_eq]
  have := sortedFrom_noInversion (beforeB L) (beforeB L)
    (fun a b q => by
      rw [Bool.eq_false_iff]; intro p
      exact before_asymm L a b ((beforeB_iff L a b).1 q) ((beforeB_iff L b a).1 p))
    (fun _ _ q => q)
    (fun a b c q p => by
      rw [Bool.eq_false_iff] at *
      intro z
      exact before_negTrans L a b c (fun y => q ((beforeB_iff L a b).2 y)) (fun y => p ((beforeB_iff L b c).2 y)) ((beforeB_iff L a c).1 z))
    i j h
  exact fun q => by rw [(beforeB_iff L _ _).2 q] at this; exact Bool.noConfusion this

/-- The entry at place `p` of the sorted row has exactly `p` entries before it. -/
theorem rank_sorted {n : ℕ} (L : Fin n → EReal) (p : Fin n) : rank L (sortedFrom (gtB L) p) = p.val := by
  have e : (Finset.univ.filter fun k => Before L k (sortedFrom (gtB L) p)) = (Finset.Iio p).image (sortedFrom (gtB L)) := by
    ext k
    obtain ⟨q, rfl⟩ := sortedFrom_surjective (gtB L) k
    simp only [Finset.mem_filter, Finset.mem_univ, true_and, Finset.mem_image, Finset.mem_Iio]
    constructor
    · intro h
      refine ⟨q, ?_, rfl⟩
      rcases lt_trichotomy q p with g | g | g
      · exact g
      · subst g; exact absurd h (before_irrefl L _)
      · exact absurd h (sorted_noInv L p q g)
    · rintro ⟨q', h, hq⟩
      rw [← hq]
      rcases before_total L (sortedFrom (gtB L) q') (sortedFrom (gtB L) p)
        (fun z => absurd (sortedFrom_injective (gtB L) z) (ne_of_lt h)) with g | g
      · exact g
      · exact absurd g (sorted_noInv L q' p h)
  unfold rank
  rw [e, Finset.card_image_of_injective _ (sortedFrom_injective (gtB L)), Fin.card_Iio]

/-- The entries named by the first `K` places of the sorted row are those of rank below `K`. -/
theorem rank_lt_iff {n : ℕ} (L : Fin n → EReal) (j : Fin n) (K : ℕ) :
    rank L j < K ↔ ∃ p : Fin n, p.val < K ∧ sortedFrom (gtB L) p = j := by
  obtain ⟨q, rfl⟩ := sortedFrom_surjective (gtB L) j
  rw [rank_sorted]
  refine ⟨fun h => ⟨q, h, rfl⟩, ?_⟩
  rintro ⟨p, h, hp⟩
  rw [← sortedFrom_injective (gtB L) hp]; exact h

end Cert.Spec
-- ==== Proof.V.Spec.lean ====
module

public import proofs.«01_k».proof.Proof.V.Rank

@[expose] public section

set_option maxRecDepth 16384

noncomputable section

namespace Cert.Spec

open Idealize.ShloMosaic
open scoped Classical

/-- A token's logits less the gates' logistic. -/
def sPre (L g : Fin 8 → EReal) (e : Fin 8) : EReal := L e - Ideal.div 1 (1 + Ideal.exp (-g e))
/-- The positive part. -/
def sAct (P : Fin 8 → EReal) (e : Fin 8) : EReal := max (P e) 0
/-- One where an entry is positive. -/
def sAm (A : Fin 8 → EReal) (e : Fin 8) : EReal := if 0 < A e then 1 else 0
/-- One at the four best entries, of equal ones the left first. -/
def sFb (L : Fin 8 → EReal) (e : Fin 8) : EReal := if rank L e < 4 then 1 else 0
/-- The four best where no entry is active, else the active ones. -/
def sPick (M B : Fin 8 → EReal) (e : Fin 8) : EReal := if ∑ x, M x = 0 then B e else M e
/-- The scores the softmax is taken of. -/
def sGm (K A : Fin 8 → EReal) (e : Fin 8) : EReal := if 0 < K e then A e else Ideal.ofBits FTy.f32 4286513152#32
/-- The softmax's numerators. -/
def sNum (G : Fin 8 → EReal) (e : Fin 8) : EReal :=
  Ideal.exp (G e - Finset.fold max (Ideal.ofBits FTy.f32 4286578688#32) (fun x => G x) Finset.univ)
/-- The softmax. -/
def sDiv (N : Fin 8 → EReal) (e : Fin 8) : EReal := Ideal.div (N e) (∑ x, N x)
/-- An expert's hidden value. -/
def sHid (x : Fin 1024 → EReal) (w1 : Fin 1024 → EReal) : EReal := ∑ d, x d * w1 d
/-- The GELU of a hidden value. -/
def sGelu (h : EReal) : EReal :=
  Ideal.ofBits FTy.f32 1056964608#32 * h * (1 + FloatOps.erf (F := Ideal) (φ := .f32) (h * Ideal.ofBits FTy.f32 1060439283#32))
/-- An expert's output entry. -/
def sOut (x : Fin 1024 → EReal) (w1 : Fin 512 → Fin 1024 → EReal) (w2 : Fin 512 → EReal) : EReal :=
  ∑ k, sGelu (sHid x (w1 k)) * w2 k

/-- A token's mask. -/
def sMask (L g : Fin 8 → EReal) : Fin 8 → EReal := sPick (sAm (sAct (sPre L g))) (sFb L)
/-- A token's softmax. -/
def sW (L g : Fin 8 → EReal) : Fin 8 → EReal := sDiv (sNum (sGm (sMask L g) (sAct (sPre L g))))

end Cert.Spec
-- ==== Proof.V.Ker.lean ====
module

public import proofs.«01_k».proof.Proof.K.Data
public import proofs.«01_k».proof.Proof.V.Spec

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem
open scoped Classical

variable (L : FVec Ideal S512x8 .f32) (G : FVec Ideal S1x8 .f32) (r : Fin 512) (e : Fin 8) (d : Fin 1024)

/-- A block row of logits. -/
def lrow (L : FVec Ideal S512x8 .f32) (r : Fin 512) (e : Fin 8) : EReal := L (ix2 r e)
/-- The block of gates. -/
def grow (G : FVec Ideal S1x8 .f32) (e : Fin 8) : EReal := G (ix2 0 e)

/-- A bit widened to a word and converted is one or zero. -/
theorem sitofp_bit (b : BitVec 1) :
    FloatOps.sitofp (F := Ideal) FTy.f32 (BitVec.setWidth 32 b) = if b = 1#1 then (1 : EReal) else 0 := by
  have h : ∀ w : BitVec 32, FloatOps.sitofp (F := Ideal) FTy.f32 w = ((w.toInt : ℝ) : EReal) := fun _ => rfl
  rw [h]
  have hb : b = 0#1 ∨ b = 1#1 := by
    have : ∀ v : BitVec 1, v = 0#1 ∨ v = 1#1 := by decide
    exact this b
  rcases hb with rfl | rfl <;> simp

/-- The indicator of a decided fact. -/
theorem sitofp_dec (p : Prop) [Decidable p] :
    FloatOps.sitofp (F := Ideal) FTy.f32 (BitVec.setWidth 32 (BitVec.ofBool (decide p))) = if p then (1 : EReal) else 0 := by
  rw [sitofp_bit]
  by_cases h : p <;> simp [h]

/-- The logits less the gates' logistic, at an entry. -/
theorem pay13_at : k0_pay13 (F := Ideal) L G (ix2 r e) = sPre (lrow L r) (grow G) e := by
  unfold sPre lrow grow
  pointwise [k0_pay13, k0_pay12]
  rfl

/-- The positive part, at an entry. -/
theorem pay14_at : k0_pay14 (F := Ideal) L G (ix2 r e) = sAct (sPre (lrow L r) (grow G)) e := by
  unfold sAct
  rw [← pay13_at]
  pointwise [k0_pay14]

/-- The active entries, at an entry. -/
theorem pay15_at : k0_pay15 (F := Ideal) L G (ix2 r e) = sAm (sAct (sPre (lrow L r) (grow G))) e := by
  unfold sAm
  rw [← pay14_at]
  pointwise [k0_pay15]
  exact sitofp_dec _

/-- How many are active. -/
theorem pay16_at : k0_pay16 (F := Ideal) L G (ix2 r 0) = ∑ x, sAm (sAct (sPre (lrow L r) (grow G))) x := by
  pointwise [k0_pay16]
  exact Finset.sum_congr rfl fun x _ => pay15_at L G r x

/-- Whether entry `k` comes before entry `e`, as the number the kernel counts with. -/
def ind (l : Fin 8 → EReal) (e k : Fin 8) : EReal := if Before l k e then 1 else 0

/-- A counted number is the indicator. -/
theorem ind_eq (l : Fin 8 → EReal) (e k : Fin 8) (w : BitVec 32) (hw : w = BitVec.ofNat 32 k.val) :
    FloatOps.sitofp (F := Ideal) FTy.f32 (BitVec.setWidth 32
      (IntOp.ori (BitVec.ofBool (decide (l e < l k))) (IntOp.andi (BitVec.ofBool (decide (l k = l e)))
        (IntOp.cmpi CmpIPredicate.sgt (BitVec.ofNat 32 e.val) w)))) = ind l e k := by
  have hc : IntOp.cmpi CmpIPredicate.sgt (BitVec.ofNat 32 e.val) w = BitVec.ofBool (decide (k < e)) := by
    subst hw
    revert e k
    decide
  rw [hc, sitofp_bit]
  unfold ind Before
  by_cases p : l e < l k <;> by_cases q : l k = l e <;> by_cases z : k < e <;> simp [p, q, z, IntOp.ori, IntOp.andi]

/-- The first six counted numbers. -/
theorem route_at : routeV110 (F := Ideal) L (ix2 r e)
    = ind (lrow L r) e 0 + ind (lrow L r) e 1 + ind (lrow L r) e 2 + ind (lrow L r) e 3 + ind (lrow L r) e 4 + ind (lrow L r) e 5 := by
  rw [← ind_eq (lrow L r) e 0 0#32 rfl, ← ind_eq (lrow L r) e 1 1#32 rfl, ← ind_eq (lrow L r) e 2 2#32 rfl,
    ← ind_eq (lrow L r) e 3 3#32 rfl, ← ind_eq (lrow L r) e 4 4#32 rfl, ← ind_eq (lrow L r) e 5 5#32 rfl]
  unfold lrow
  pointwise [routeV110, k0_pay22, k0_pay12, k0_pay17, k0_pay19, k0_pay18, k0_pay20, k0_pay21]

/-- The constant four. -/
theorem four : Ideal.ofBits FTy.f32 1082130432#32 = ((4 : ℕ) : EReal) := by
  simp [Ideal.ofBits, Ideal.ieee]
  rw [← EReal.coe_mul]
  norm_num
  rfl

/-- The sum of the eight indicators is the rank. -/
theorem ind_sum (l : Fin 8 → EReal) (e : Fin 8) :
    ind l e 0 + ind l e 1 + ind l e 2 + ind l e 3 + ind l e 4 + ind l e 5 + ind l e 6 + ind l e 7 = ((rank l e : ℕ) : EReal) := by
  have h : ((rank l e : ℕ) : EReal) = ∑ k, ind l e k := by
    unfold rank ind
    rw [Finset.sum_boole]
  rw [h, Fin.sum_univ_eight]

/-- The mask, at an entry. -/
theorem mask_at : routeMask (F := Ideal) L G (ix2 r e) = sMask (lrow L r) (grow G) e := by
  have h7 := ind_eq (lrow L r) e 7 7#32 rfl
  have h6 := ind_eq (lrow L r) e 6 6#32 rfl
  unfold sMask sPick sFb
  rw [← pay15_at, ← pay16_at]
  have hr : (rank (lrow L r) e < 4) ↔ ((rank (lrow L r) e : ℕ) : EReal) < ((4 : ℕ) : EReal) := by
    exact EReal.natCast_lt_iff.symm
  simp only [hr]
  rw [← ind_sum, ← route_at, ← h7, ← h6, ← sitofp_dec, ← four]
  unfold lrow
  pointwise [routeMask, k0_pay24, k0_pay23, k0_pay12]

/-- The softmax, at an entry. -/
theorem weight_at : routeWeight (F := Ideal) L G (ix2 r e) = sW (lrow L r) (grow G) e := by
  unfold sW sDiv sNum sGm
  simp only [← mask_at, ← pay14_at]
  unfold routeMask
  pointwise [routeWeight, k0_pay25]

/-- The one-hot row the kernel selects an expert by. -/
theorem pay26_at (k : Fin 8) : k0_pay26 (F := Ideal) (BitVec.ofNat 32 (k.val + 1)) (ix2 0 e) = if e = k then (1 : EReal) else 0 := by
  pointwise [k0_pay26]
  have hc : IntOp.cmpi .eq (BitVec.ofNat 32 e.val) (Scalar.subi (BitVec.ofNat 32 (k.val + 1)) 1#32) = BitVec.ofBool (decide (e = k)) := by
    revert e k
    decide
  rw [hc]
  exact sitofp_dec _

/-- Selecting an expert's entry of a row. -/
theorem pick_sum (M : Fin 8 → EReal) (k : Fin 8) :
    (∑ x, M x * k0_pay26 (F := Ideal) (BitVec.ofNat 32 (k.val + 1)) (ix2 0 x)) = M k := by
  rw [Finset.sum_eq_single k]
  · rw [pay26_at, if_pos rfl, mul_one]
  · intro x _ h
    rw [pay26_at, if_neg h, mul_zero]
  · intro h; exact absurd (Finset.mem_univ _) h

/-- An expert's softmax weight. -/
theorem pay27_at (W : FVec Ideal S512x8 .f32) (k : Fin 8) :
    k0_pay27 (F := Ideal) (BitVec.ofNat 32 (k.val + 1)) W (ix2 r 0) = W (ix2 r k) := by
  pointwise [k0_pay27]
  exact pick_sum (fun x => W (ix2 r x)) k

/-- An expert's masked output. -/
theorem pay28_at (o : FVec Ideal S512x1024 .f32) (M : FVec Ideal S512x8 .f32) (k : Fin 8) :
    k0_pay28 (F := Ideal) (BitVec.ofNat 32 (k.val + 1)) o M (ix2 r d) = M (ix2 r k) * o (ix2 r d) := by
  pointwise [k0_pay28]
  rw [pick_sum (fun x => M (ix2 r x)) k]

/-- One step of the running sum. -/
theorem pay7_at (w : FVec Ideal S512x1 .f32) (o f : FVec Ideal S512x1024 .f32) :
    k0_pay7 (F := Ideal) w o f (ix2 r d) = f (ix2 r d) + w (ix2 r 0) * o (ix2 r d) := by
  pointwise [k0_pay7]

/-- The running sum's start. -/
theorem pay4_at : k0_pay4 (F := Ideal) (ix2 r d) = (0 : EReal) := by
  pointwise [k0_pay4]

/-- An expert's output, at an entry. -/
theorem pay5_at (x : FVec Ideal S512x1024 .bf16) (w1 : FVec Ideal S1x512x1024 .bf16) (w2 : FVec Ideal S1x1024x512 .bf16) :
    k0_pay5 (F := Ideal) x w1 w2 (ix2 r d)
      = sOut (fun d => x (ix2 r d)) (fun k d => w1 (ix3 0 k d)) (fun k => w2 (ix3 0 d k)) := by
  unfold sOut sGelu sHid
  pointwise [k0_pay5]

/-- The rounding of the tokens is the identity here. -/
theorem pay3_at (x : FVec Ideal S512x1024 .f32) : k0_pay3 (F := Ideal) x (ix2 r d) = x (ix2 r d) := by
  pointwise [k0_pay3]

/-- The rounding of the first weights is the identity here. -/
theorem pay1_at (w : FVec Ideal S1x512x1024 .f32) (k : Fin 512) : k0_pay1 (F := Ideal) w (ix3 0 k d) = w (ix3 0 k d) := by
  pointwise [k0_pay1]

/-- The rounding of the second weights is the identity here. -/
theorem pay2_at (w : FVec Ideal S1x1024x512 .f32) (k : Fin 512) : k0_pay2 (F := Ideal) w (ix3 0 d k) = w (ix3 0 d k) := by
  pointwise [k0_pay2]

/-- The exchange of the token and expert axes. -/
theorem pay11_at (v : FVec Ideal S1x8x512x256 .bf16) (z : Fin 256) : k0_pay11 (F := Ideal) v (ix3 r e z) = v (ix4 0 e r z) := by
  pointwise [k0_pay11]

/-- A column of a chunk is a column of the masked output. -/
theorem chunk_at (j : Fin 4) (w : BitVec 32) (o : FVec Ideal S512x1024 .f32) (M : FVec Ideal S512x8 .f32) (z : Fin 256)
    (hz : 256 * j.val + z.val < 1024) :
    (chunk (F := Ideal) j.val w o M (ix4 0 0 r z) : EReal) = (k0_pay28 (F := Ideal) w o M (ix2 r ⟨256 * j.val + z.val, hz⟩) : EReal) := by
  match j with
  | ⟨0, _⟩ => show k0_pay29 (F := Ideal) w o M (ix4 0 0 r z) = _; pointwise [k0_pay29]
  | ⟨1, _⟩ => show k0_pay30 (F := Ideal) w o M (ix4 0 0 r z) = _; pointwise [k0_pay30]
  | ⟨2, _⟩ => show k0_pay31 (F := Ideal) w o M (ix4 0 0 r z) = _; pointwise [k0_pay31]
  | ⟨3, _⟩ => show k0_pay6 (F := Ideal) (k0_pay32 w o M) (ix4 0 0 r z) = _; pointwise [k0_pay6, k0_pay32]

end Cert.KernelIdeal.Val
-- ==== Proof.V.Layers.lean ====
module

public import proofs.«01_k».proof.Proof.Gen.ReferenceIdeal.Run
public import Idealize.ShloMosaic.Lib.Pointwise

@[expose] public section

set_option maxRecDepth 16384

noncomputable section

namespace Cert.ReferenceIdeal.Lay

open Cert.ReferenceIdeal Cert.ReferenceIdeal.Gen Idealize.ShloMosaic Idealize.ShloMosaic.TcCoe Idealize.SL.Sem

/-- The cosine logits of the tokens against the experts' columns. -/
def rLogits (x : FVec Ideal S2048x1024 .f32) (s : FVec Ideal S1024x8 .f32) : FVec Ideal S2048x8 .f32 :=
  Host.dotGeneral dot_S2048x1024_S1024x8_S2048x8_1_0_0_1_n_n none (Host.divf x (broadcastInDim S2048x1024 ![0, 1] bcast_S2048x1_S2048x1024_0_1 (maximumf (Host.sqrt (broadcastInDim S2048x1 ![0] bcast_S2048_S2048x1_0 (Host.reduceAdd (mulf x x) (constant S_ .f32 0x00000000#32) reducesTo_S2048x1024_S2048_d1 h_S_))) (broadcastInDim S2048x1 ![] bcast_S_S2048x1 (constant S_ .f32 0x2B8CBCCC#32))))) (Host.divf s (broadcastInDim S1024x8 ![0, 1] bcast_S1x8_S1024x8_0_1 (maximumf (Host.sqrt (broadcastInDim S1x8 ![1] bcast_S8_S1x8_1 (Host.reduceAdd (mulf s s) (constant S_ .f32 0x00000000#32) reducesTo_S1024x8_S8_d0 h_S_))) (broadcastInDim S1x8 ![] bcast_S_S1x8 (constant S_ .f32 0x2B8CBCCC#32)))))

/-- The logits less the gates' logistic. -/
def rPre (L : FVec Ideal S2048x8 .f32) (g : FVec Ideal S8 .f32) : FVec Ideal S2048x8 .f32 :=
  subf L (broadcastInDim S2048x8 ![0, 1] bcast_S1x8_S2048x8_0_1 (broadcastInDim S1x8 ![1] bcast_S8_S1x8_1 (Host.divf (broadcastInDim S8 ![] bcast_S_S8 (constant S_ .f32 0x3F800000#32)) (addf (broadcastInDim S8 ![] bcast_S_S8 (constant S_ .f32 0x3F800000#32)) (Host.exp (Host.negf g))))))

/-- The positive part. -/
def rAct (P : FVec Ideal S2048x8 .f32) : FVec Ideal S2048x8 .f32 :=
  maximumf P (broadcastInDim S2048x8 ![] bcast_S_S2048x8 (constant S_ .f32 0x00000000#32))

/-- Where the positive part is positive. -/
def rAm (A : FVec Ideal S2048x8 .f32) : FVec Ideal S2048x8 .f32 :=
  uitofp .f32 (cmpf .ogt A (broadcastInDim S2048x8 ![] bcast_S_S2048x8 (constant S_ .f32 0x00000000#32)))

/-- Each token's row number, as the scatter is handed it. -/
def rRow : IVec S2048x4x1 32 :=
  broadcastInDim S2048x4x1 ![0, 1] bcast_S2048x4_S2048x4x1_0_1 (broadcastInDim S2048x4 ![0, 1] bcast_S2048x1_S2048x4_0_1 (select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0))))

/-- The four best experts' numbers. -/
def rTop (L : FVec Ideal S2048x8 .f32) : IVec S2048x4 32 :=
  (Host.topK S2048x4 1 (FloatOps.cmpfTotal .gt) L sliceFits_S2048x8_S2048x4).2

/-- The experts' numbers as the scatter is handed them. -/
def rCol (I : IVec S2048x4 32) : IVec S2048x4x1 32 :=
  broadcastInDim S2048x4x1 ![0, 1] bcast_S2048x4_S2048x4x1_0_1 (select (cmpi .slt I (broadcastInDim S2048x4 ![] bcast_S_S2048x4 (constantI S_ 32 0#32))) (addi I (broadcastInDim S2048x4 ![] bcast_S_S2048x4 (constantI S_ 32 8#32))) I)

/-- The pairs the scatter is handed. -/
def rIdx (I : IVec S2048x4 32) : IVec S2048x4x2 32 :=
  concatenate S2048x4x2 2 [⟨S2048x4x1, rRow⟩, ⟨S2048x4x1, rCol I⟩] concatenates_S2048x4x1_S2048x4x1_S2048x4x2_d2

/-- The mask of the four best experts. -/
def rFb (L : FVec Ideal S2048x8 .f32) : FVec Ideal S2048x8 .f32 :=
  Host.scatter scatter_S2048x8_S2048x4x2_S2048x4_n_01_01_2 (fun _ b => b) (broadcastInDim S2048x8 ![] bcast_S_S2048x8 (constant S_ .f32 0x00000000#32)) (rIdx (rTop L)) (broadcastInDim S2048x4 ![] bcast_S_S2048x4 (constant S_ .f32 0x3F800000#32))

/-- The mask: the four best experts where no expert is active, else the active ones. -/
def rMask (M B : FVec Ideal S2048x8 .f32) : FVec Ideal S2048x8 .f32 :=
  select (broadcastInDim S2048x8 ![0, 1] bcast_S2048x1_S2048x8_0_1 (broadcastInDim S2048x1 ![0] bcast_S2048_S2048x1_0 (cmpf .oeq (Host.reduceAdd M (constant S_ .f32 0x00000000#32) reducesTo_S2048x8_S2048_d1 h_S_ : FVec Ideal S2048 .f32) (broadcastInDim S2048 ![] bcast_S_S2048 (constant S_ .f32 0x00000000#32))))) B M

/-- The scores the softmax is taken of. -/
def rGm (K A : FVec Ideal S2048x8 .f32) : FVec Ideal S2048x8 .f32 :=
  select (cmpf .ogt K (broadcastInDim S2048x8 ![] bcast_S_S2048x8 (constant S_ .f32 0x00000000#32))) A (broadcastInDim S2048x8 ![] bcast_S_S2048x8 (constant S_ .f32 0xFF7F0000#32))

/-- The softmax's numerators. -/
def rNum (G : FVec Ideal S2048x8 .f32) : FVec Ideal S2048x8 .f32 :=
  Host.exp (subf G (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf G (constant S_ .f32 0xFF800000#32) reducesTo_S2048x8_S2048_d1 h_S_ : FVec Ideal S2048 .f32)))))

/-- The softmax. -/
def rW (N : FVec Ideal S2048x8 .f32) : FVec Ideal S2048x8 .f32 :=
  Host.divf N (broadcastInDim S2048x8 ![0, 1] bcast_S2048x1_S2048x8_0_1 (broadcastInDim S2048x1 ![0] bcast_S2048_S2048x1_0 (Host.reduceAdd N (constant S_ .f32 0x00000000#32) reducesTo_S2048x8_S2048_d1 h_S_ : FVec Ideal S2048 .f32)))

/-- The experts' hidden values. -/
def rHid (x : FVec Ideal S2048x1024 .f32) (w1 : FVec Ideal S8x512x1024 .f32) : FVec Ideal S2048x8x512 .f32 :=
  Host.dotGeneral dot_S2048x1024_S8x512x1024_S2048x8x512_1_2_0_01_n_n none x w1

/-- The hidden values' GELU. -/
def rGelu (H : FVec Ideal S2048x8x512 .f32) : FVec Ideal S2048x8x512 .f32 :=
  mulf (mulf (broadcastInDim S2048x8x512 ![] bcast_S_S2048x8x512 (constant S_ .f32 0x3F000000#32)) H) (Host.erfc (mulf (Host.negf H) (broadcastInDim S2048x8x512 ![] bcast_S_S2048x8x512 (constant S_ .f32 0x3F3504F3#32))))

/-- The experts' outputs. -/
def rOut (g : FVec Ideal S2048x8x512 .f32) (w2 : FVec Ideal S8x1024x512 .f32) : FVec Ideal S2048x8x1024 .f32 :=
  transpose S2048x8x1024 [2, 0, 1] (Host.dotGeneral dot_S8x1024x512_S2048x8x512_S8x1024x2048_2_2_1_0_0_1 none w2 g) transposes_S8x1024x2048_S2048x8x1024_2_0_1

/-- The masked outputs. -/
def rFuo (K : FVec Ideal S2048x8 .f32) (O : FVec Ideal S2048x8x1024 .f32) : FVec Ideal S2048x8x1024 .f32 :=
  mulf (broadcastInDim S2048x8x1024 ![0, 1, 2] bcast_S2048x8x1_S2048x8x1024_0_1_2 (broadcastInDim S2048x8x1 ![0, 1] bcast_S2048x8_S2048x8x1_0_1 K)) O

/-- The weighted sum of the masked outputs. -/
def rFin (W : FVec Ideal S2048x8 .f32) (U : FVec Ideal S2048x8x1024 .f32) : FVec Ideal S2048x1024 .f32 :=
  Host.dotGeneral dot_S2048x8_S2048x8x1024_S2048x1024_1_1_n_2_0_0 none W U

variable (x : FVec Ideal S2048x1024 .f32) (s : FVec Ideal S1024x8 .f32) (g : FVec Ideal S8 .f32) (w1 : FVec Ideal S8x512x1024 .f32)
  (w2 : FVec Ideal S8x1024x512 .f32)

/-- The mask of the arguments. -/
def allMask : FVec Ideal S2048x8 .f32 := rMask (rAm (rAct (rPre (rLogits x s) g))) (rFb (rLogits x s))

/-- The masked outputs of the arguments. -/
def allFuo : FVec Ideal S2048x8x1024 .f32 := rFuo (allMask x s g) (rOut (rGelu (rHid x w1)) w2)

/-- The softmax of the arguments. -/
def allW : FVec Ideal S2048x8 .f32 := rW (rNum (rGm (allMask x s g) (rAct (rPre (rLogits x s) g))))

/-- The weighted sum of the arguments. -/
def allFin : FVec Ideal S2048x1024 .f32 := rFin (allW x s g) (allFuo x s g w1 w2)

variable (m : (ℓ : Loc nD τ sig) → Buf (Elt Ideal) ℓ) (c : Dev nD)

/-- The mask result in layers. -/
theorem res3 : Value.res_main_v47 m c = allMask (m ((c.tc : Thread nD τ).loc main_arg0)) (m ((c.tc : Thread nD τ).loc main_arg1)) (m ((c.tc : Thread nD τ).loc main_arg2)) := by
  delta Value.res_main_v47 allMask rMask rAm rAct rPre rLogits rFb rIdx rTop rRow rCol
  rfl

/-- The masked outputs' result in layers. -/
theorem res1 : Value.res_main_v74 m c = allFuo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  delta Value.res_main_v74 allFuo allMask rMask rAm rAct rPre rLogits rFb rIdx rTop rRow rCol rFuo rOut rGelu rHid
  rfl

/-- The weighted sum's result in layers. -/
theorem res0 : Value.res_main_v75 m c = allFin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  delta Value.res_main_v75 allFin allW allFuo allMask rMask rAm rAct rPre rLogits rFb rIdx rTop rRow rCol rFuo rOut rGelu rHid rFin rW rNum rGm
  rfl

end Cert.ReferenceIdeal.Lay
-- ==== Proof.V.Ref.lean ====
module

public import proofs.«01_k».proof.Proof.V.Layers
public import proofs.«01_k».proof.Proof.V.Spec

@[expose] public section

set_option maxRecDepth 16384

noncomputable section

namespace Cert.ReferenceIdeal.Lay

open Cert.ReferenceIdeal Cert.ReferenceIdeal.Gen Cert.Spec Idealize.ShloMosaic Idealize.ShloMosaic.TcCoe Idealize.SL.Sem
open scoped Classical

variable (r : Fin 2048) (e : Fin 8) (d : Fin 1024) (k : Fin 512) (q : Fin 4)

/-- The logits less the gates' logistic, at an entry. -/
theorem rPre_at (L : FVec Ideal S2048x8 .f32) (g : FVec Ideal S8 .f32) :
    rPre L g (ix2 r e) = sPre (fun e => L (ix2 r e)) (fun e => g (ix1 e)) e := by
  unfold sPre
  pointwise [rPre]

/-- The positive part, at an entry. -/
theorem rAct_at (P : FVec Ideal S2048x8 .f32) : rAct P (ix2 r e) = sAct (fun e => P (ix2 r e)) e := by
  unfold sAct
  pointwise [rAct]

/-- The active entries, at an entry. -/
theorem rAm_at (A : FVec Ideal S2048x8 .f32) : rAm A (ix2 r e) = sAm (fun e => A (ix2 r e)) e := by
  unfold sAm
  pointwise [rAm]
  have h : ∀ b : BitVec 1, FloatOps.uitofp (F := Ideal) FTy.f32 b = ((b.toNat : ℝ) : EReal) := fun _ => rfl
  rw [h]
  by_cases p : 0 < A (ix2 r e) <;> simp [p]

/-- The mask's choice, at an entry. -/
theorem rMask_at (M B : FVec Ideal S2048x8 .f32) :
    rMask M B (ix2 r e) = sPick (fun e => M (ix2 r e)) (fun e => B (ix2 r e)) e := by
  unfold sPick
  pointwise [rMask]

/-- The softmax's scores, at an entry. -/
theorem rGm_at (K A : FVec Ideal S2048x8 .f32) :
    rGm K A (ix2 r e) = sGm (fun e => K (ix2 r e)) (fun e => A (ix2 r e)) e := by
  unfold sGm
  pointwise [rGm]

/-- The softmax's numerators, at an entry. -/
theorem rNum_at (G : FVec Ideal S2048x8 .f32) : rNum G (ix2 r e) = sNum (fun e => G (ix2 r e)) e := by
  unfold sNum
  pointwise [rNum]
  rw [max_eq_right]
  exact (Finset.le_fold_max _).2 (Or.inl le_rfl)

/-- The softmax, at an entry. -/
theorem rW_at (N : FVec Ideal S2048x8 .f32) : rW N (ix2 r e) = sDiv (fun e => N (ix2 r e)) e := by
  unfold sDiv
  pointwise [rW]

/-- The hidden values' GELU, at an entry. -/
theorem rGelu_at (H : FVec Ideal S2048x8x512 .f32) : rGelu H (ix3 r e k) = sGelu (H (ix3 r e k)) := by
  unfold sGelu
  pointwise [rGelu]
  have h : ∀ x : EReal, FloatOps.erf (F := Ideal) (φ := .f32) x = Ideal.erf x := fun _ => rfl
  rw [h, EReal.neg_mul, Ideal.erfc_neg]

/-- The experts' outputs, at an entry. -/
theorem rOut_at (x : FVec Ideal S2048x1024 .f32) (w1 : FVec Ideal S8x512x1024 .f32) (w2 : FVec Ideal S8x1024x512 .f32) :
    rOut (rGelu (rHid x w1)) w2 (ix3 r e d)
      = sOut (fun d => x (ix2 r d)) (fun k d => w1 (ix3 e k d)) (fun k => w2 (ix3 e d k)) := by
  unfold sOut
  pointwise [rOut]
  refine Finset.sum_congr rfl fun k _ => ?_
  rw [rGelu_at, mul_comm]
  congr 2
  unfold sHid
  pointwise [rHid]

/-- The row words the scatter is handed. -/
theorem rRow_at : rRow (ix3 r q 0) = BitVec.ofNat 32 r.val := by
  pointwise [rRow]
  exact Routing.wrap_of_lt _ _ (by rw [BitVec.toNat_ofNat, Nat.mod_eq_of_lt (by omega)]; omega)

/-- The place, in the sorted row, of one of the four. -/
def place (q : Fin 4) : Fin 8 := ⟨q.val, by omega⟩

/-- The four best experts' numbers are the first four places of the sorted row. -/
theorem rTop_at (L : FVec Ideal S2048x8 .f32) :
    rTop L (ix2 r q) = BitVec.ofNat 32 (sortedFrom (gtB fun e => L (ix2 r e)) (place q)).val := by
  have hx : ∀ k : Fin 8, (ix2 r (place q) : S2048x8.Idx).along 1 k = ix2 r k := by
    intro k; funext a; match a with
    | ⟨0, _⟩ => rfl
    | ⟨1, _⟩ => rfl
  unfold rTop Host.topK Host.sort2 extractStridedSlice
  dsimp only
  refine (congrArg _ (?_ : _ = (ix2 r (place q) : S2048x8.Idx))).trans ?_
  · funext a; apply Fin.ext; match a with
    | ⟨0, _⟩ => exact Nat.zero_add _
    | ⟨1, _⟩ => exact Nat.zero_add _
  · rw [dif_pos Nat.one_lt_two]
    dsimp only
    rw [dif_pos Nat.one_lt_two]
    show BitVec.ofNat 32 ((ix2 r (place q) : S2048x8.Idx).along 1 (sortedFrom (fun k k' : Fin 8 => FloatOps.cmpfTotal (F := Ideal) (φ := .f32) .gt (L ((ix2 r (place q) : S2048x8.Idx).along 1 k)) (L ((ix2 r (place q) : S2048x8.Idx).along 1 k')) == 1#1) (place q)) 1).val = _
    simp only [hx]
    rfl

/-- The column words the scatter is handed. -/
theorem rCol_at (L : FVec Ideal S2048x8 .f32) :
    rCol (rTop L) (ix3 r q 0) = BitVec.ofNat 32 (sortedFrom (gtB fun e => L (ix2 r e)) (place q)).val := by
  pointwise [rCol]
  rw [rTop_at]
  exact Routing.wrap_of_lt _ _ (by rw [BitVec.toNat_ofNat, Nat.mod_eq_of_lt (by omega)]; omega)

/-- The first words of the pairs. -/
theorem rIdx_row (I : IVec S2048x4 32) : rIdx I (ix3 r q 0) = BitVec.ofNat 32 r.val := by
  rw [← rRow_at r q]
  pointwise [rIdx]

/-- The second words of the pairs. -/
theorem rIdx_col (L : FVec Ideal S2048x8 .f32) :
    rIdx (rTop L) (ix3 r q 1) = BitVec.ofNat 32 (sortedFrom (gtB fun e => L (ix2 r e)) (place q)).val := by
  rw [← rCol_at r q]
  pointwise [rIdx]

/-- Two spellings of an index of rank two. -/
theorem vix2 {a b : ℕ} (i : Fin a) (j : Fin b) : ValueIdx.ix2 i j = ix2 i j := by
  funext t; match t with
  | ⟨0, _⟩ => rfl
  | ⟨1, _⟩ => rfl

/-- Two spellings of an index of rank three. -/
theorem vix3 {a b c : ℕ} (i : Fin a) (j : Fin b) (k : Fin c) : ValueIdx.ix3 i j k = ix3 i j k := by
  funext t; match t with
  | ⟨0, _⟩ => rfl
  | ⟨1, _⟩ => rfl
  | ⟨2, _⟩ => rfl

/-- The mask of the four best experts, at an entry. -/
theorem rFb_at (L : FVec Ideal S2048x8 .f32) : rFb L (ix2 r e) = sFb (fun e => L (ix2 r e)) e := by
  have one : ∀ i : S2048x4.Idx, (broadcastInDim S2048x4 ![] bcast_S_S2048x4 (constant S_ .f32 0x3F800000#32) : FVec Ideal S2048x4 .f32) i = 1 :=
    fun _ => Ideal.ofBits_one_f32
  have zero : ∀ i : S2048x8.Idx, (broadcastInDim S2048x8 ![] bcast_S_S2048x8 (constant S_ .f32 0x00000000#32) : FVec Ideal S2048x8 .f32) i = 0 :=
    fun _ => Ideal.ofBits_zero_f32
  have h := ScatterToDense.scatter_eq_GS scatter_S2048x8_S2048x4x2_S2048x4_n_01_01_2 rfl rfl rfl (by norm_num) (by norm_num)
    (broadcastInDim S2048x8 ![] bcast_S_S2048x8 (constant (F := Ideal) S_ .f32 0x00000000#32)) (rIdx (rTop L))
    (broadcastInDim S2048x4 ![] bcast_S_S2048x4 (constant (F := Ideal) S_ .f32 0x3F800000#32))
    (fun i n => BitVec.ofNat 32 (sortedFrom (gtB fun e => L (ix2 i e)) ⟨n % 8, Nat.mod_lt _ (by norm_num)⟩).val) (fun _ _ => (1 : EReal))
    (fun i k => by rw [vix3]; exact rIdx_row i k _)
    (fun i k => by
      rw [vix3]
      refine (rIdx_col i k L).trans ?_
      have : (⟨k.val % 8, Nat.mod_lt _ (by norm_num)⟩ : Fin 8) = place k := Fin.ext (Nat.mod_eq_of_lt (by omega))
      rw [this])
    (fun i k => one _) r e
  rw [vix2, zero] at h
  refine Eq.trans h ?_
  unfold sFb
  unfold ScatterToDense.GS
  rcases LaneScatter.lastHit_cases (fun k => e.val = (BitVec.ofNat 32 (sortedFrom (gtB fun e => L (ix2 r e)) ⟨k % 8, Nat.mod_lt _ (by norm_num)⟩).val).toNat)
    (fun _ => (1 : EReal)) 0 4 with ⟨k, hk, hit, _, hv⟩ | ⟨hn, hv⟩
  · rw [if_pos]
    · exact hv
    · rw [rank_lt_iff]
      refine ⟨⟨k % 8, Nat.mod_lt _ (by norm_num)⟩, ?_, ?_⟩
      · show k % 8 < 4
        omega
      · rw [BitVec.toNat_ofNat, Nat.mod_eq_of_lt (by omega)] at hit
        exact Fin.ext hit.symm
  · rw [if_neg]
    · exact hv
    · rw [rank_lt_iff]
      rintro ⟨p, hp, hs⟩
      refine hn p.val hp ?_
      have : (⟨p.val % 8, Nat.mod_lt _ (by norm_num)⟩ : Fin 8) = p := Fin.ext (Nat.mod_eq_of_lt p.isLt)
      rw [this, hs, BitVec.toNat_ofNat, Nat.mod_eq_of_lt (by omega)]

variable (x : FVec Ideal S2048x1024 .f32) (s : FVec Ideal S1024x8 .f32) (g : FVec Ideal S8 .f32) (w1 : FVec Ideal S8x512x1024 .f32)
  (w2 : FVec Ideal S8x1024x512 .f32)

/-- A token's row of logits. -/
def row (r : Fin 2048) (e : Fin 8) : EReal := rLogits x s (ix2 r e)
/-- The gates. -/
def gat (e : Fin 8) : EReal := g (ix1 e)

/-- The positive part of the arguments' scores, at an entry. -/
theorem rActs_at : rAct (rPre (rLogits x s) g) (ix2 r e) = sAct (sPre (row x s r) (gat g)) e := by
  rw [rAct_at]
  exact congrArg (fun P => sAct P e) (funext fun e => rPre_at r e _ _)

/-- The mask, at an entry. -/
theorem allMask_at : allMask x s g (ix2 r e) = sMask (row x s r) (gat g) e := by
  unfold allMask sMask
  rw [rMask_at]
  refine congrArg₂ (fun M B => sPick M B e) (funext fun e => ?_) (funext fun e => rFb_at r e _)
  rw [rAm_at]
  exact congrArg (fun A => sAm A e) (funext fun e => rActs_at r e x s g)

/-- The softmax, at an entry. -/
theorem allW_at : allW x s g (ix2 r e) = sW (row x s r) (gat g) e := by
  unfold allW sW
  rw [rW_at]
  refine congrArg (fun N => sDiv N e) (funext fun e => ?_)
  rw [rNum_at]
  refine congrArg (fun G => sNum G e) (funext fun e => ?_)
  rw [rGm_at]
  exact congrArg₂ (fun K A => sGm K A e) (funext fun e => allMask_at r e x s g) (funext fun e => rActs_at r e x s g)

/-- The masked outputs, at an entry. -/
theorem allFuo_at : allFuo x s g w1 w2 (ix3 r e d)
    = sMask (row x s r) (gat g) e * sOut (fun d => x (ix2 r d)) (fun k d => w1 (ix3 e k d)) (fun k => w2 (ix3 e d k)) := by
  rw [← rOut_at, ← allMask_at]
  unfold allFuo
  pointwise [rFuo]

/-- The weighted sum, at an entry. -/
theorem allFin_at : allFin x s g w1 w2 (ix2 r d)
    = ∑ e, sW (row x s r) (gat g) e * (sMask (row x s r) (gat g) e * sOut (fun d => x (ix2 r d)) (fun k d => w1 (ix3 e k d)) (fun k => w2 (ix3 e d k))) := by
  unfold allFin
  pointwise [rFin]
  exact Finset.sum_congr rfl fun e _ => by rw [allW_at, allFuo_at]

end Cert.ReferenceIdeal.Lay
-- ==== Proof.V.Arr.lean ====
module

public import proofs.«01_k».proof.Proof.V.Ker
public import proofs.«01_k».proof.Proof.V.Ref
public import Idealize.ShloMosaic.Lib.Pipeline.ValueKit

@[expose] public section

set_option maxRecDepth 16384

noncomputable section

namespace Cert.KernelIdeal.Val

open Cert.KernelIdeal Cert.KernelIdeal.Gen Cert.KernelIdeal.Hand Cert.Spec Cert.ReferenceIdeal.Lay
open Idealize.ShloMosaic Idealize.ShloMosaic.TcCoe Idealize.SL.Sem

variable (m : (ℓ : Loc nD τ sig) → Buf (Elt Ideal) ℓ) (c : Dev nD)

/-- The tokens. -/
abbrev aX : FVec Ideal S2048x1024 .f32 := m ((c.tc : Thread nD τ).loc main_arg0)
/-- The experts' columns. -/
abbrev aS : FVec Ideal S1024x8 .f32 := m ((c.tc : Thread nD τ).loc main_arg1)
/-- The gates. -/
abbrev aG : FVec Ideal S8 .f32 := m ((c.tc : Thread nD τ).loc main_arg2)
/-- The first weights. -/
abbrev aW1 : FVec Ideal S8x512x1024 .f32 := m ((c.tc : Thread nD τ).loc main_arg3)
/-- The second weights. -/
abbrev aW2 : FVec Ideal S8x1024x512 .f32 := m ((c.tc : Thread nD τ).loc main_arg4)

/-- Where every window's block stands at a point. -/
theorem idx : ∀ t : Fin cfg0.N, win0_0.index t = ![t.val / 12, 0] ∧ win0_1.index t = ![if t.val / 12 = 0 then min (t.val % 12) 7 else 7, 0, 0]
    ∧ win0_2.index t = ![if t.val / 12 = 0 then min (t.val % 12) 7 else 7, 0, 0] ∧ win0_3.index t = ![t.val / 12, 0] ∧ win0_4.index t = ![0, 0]
    ∧ win0_5.index t = ![t.val / 12, 0, t.val % 12 - 8] ∧ win0_6.index t = ![t.val / 12, 0] ∧ win0_7.index t = ![t.val / 12, 0]
    ∧ win0_8.index t = ![t.val / 12, 0] ∧ t.val / 12 < 4 :=
  (by decide +kernel : ∀ t : Fin grid0.N, _)

/-- When the first output's block is written back. -/
theorem fl5 : ∀ t : Fin cfg0.N, (cfg0.win 5).flush t = true → 8 ≤ t.val % 12 :=
  (by decide +kernel : ∀ t : Fin grid0.N, _)
/-- When the second output's block is written back. -/
theorem fl6 : ∀ t : Fin cfg0.N, (cfg0.win 6).flush t = true → t.val % 12 = 11 :=
  (by decide +kernel : ∀ t : Fin grid0.N, _)

/-- The token row of row `r` of block `T`. -/
def trow (T : ℕ) (r : Fin 512) : Fin 2048 := ⟨(512 * T + r.val) % 2048, Nat.mod_lt _ (by norm_num)⟩

/-- The logits the launch is handed are the reference's. -/
theorem V_logits : V m c main_v10 = rLogits (aX m c) (aS m c) := by
  entry_read
  rfl

/-- The gates the launch is handed are the argument's, reshaped. -/
theorem V_gates_arr : V m c main_v11 = shapeCast S1x8 (aG m c) shapeCasts_S8_S1x8 := by
  entry_read
  rfl

/-- The gates the launch is handed are the argument's, as a row. -/
theorem V_gates (e : Fin 8) : V m c main_v11 (ix2 0 e) = aG m c (ix1 e) := by
  rw [V_gates_arr]
  pointwise []

variable (T : ℕ) (hT : T < 4) (r : Fin 512) (d : Fin 1024) (e : Fin 8) (k : Fin 512)

include hT

/-- A block's first point. -/
theorem pt_T : (pt (12 * T)).val = 12 * T := Nat.mod_eq_of_lt (by omega)

/-- The tokens of a block. -/
theorem xIn_at : xIn m c T (ix2 r d) = aX m c (ix2 (trow T r) d) := by
  have h := pt_T T hT
  unfold xIn trow
  blk_ext [iblk, V, idx (pt (12 * T))]

/-- The logits of a block. -/
theorem lgIn_at : lgIn m c T (ix2 r e) = row (aX m c) (aS m c) (trow T r) e := by
  have h := pt_T T hT
  unfold lgIn row trow
  rw [← V_logits]
  blk_ext [iblk, idx (pt (12 * T))]

/-- The gates of a block. -/
theorem gtIn_at : gtIn m c T (ix2 0 e) = gat (aG m c) e := by
  have h := pt_T T hT
  unfold gtIn gat
  rw [← V_gates]
  blk_ext [iblk, idx (pt (12 * T))]

omit hT

/-- An expert's first weights. -/
theorem w1c_at : w1c m c e.val (ix3 0 k d) = aW1 m c (ix3 e k d) := by
  have h : (pt e.val).val = e.val := Nat.mod_eq_of_lt (by omega)
  unfold w1c
  rw [pay1_at]
  blk_ext [iblk, V, idx (pt e.val)]
  rw [if_pos (by omega)]
  omega

/-- An expert's second weights. -/
theorem w2c_at : w2c m c e.val (ix3 0 d k) = aW2 m c (ix3 e d k) := by
  have h : (pt e.val).val = e.val := Nat.mod_eq_of_lt (by omega)
  unfold w2c
  rw [pay2_at]
  blk_ext [iblk, V, idx (pt e.val)]
  rw [if_pos (by omega)]
  omega

/-- An expert's output on a block, at an entry. -/
def eOut (t : Fin 2048) (e : Fin 8) (d : Fin 1024) : EReal :=
  sOut (fun d => aX m c (ix2 t d)) (fun k d => aW1 m c (ix3 e k d)) (fun k => aW2 m c (ix3 e d k))

include hT

/-- An expert's output on a block is the specification's. -/
theorem oOf_at : oOf m c T e.val (ix2 r d) = eOut m c (trow T r) e d := by
  unfold oOf eOut
  rw [pay5_at]
  simp only [pay3_at, xIn_at m c T hT, w1c_at, w2c_at]

/-- The block rows of logits. -/
theorem lrow_eq : lrow (lgIn m c T) r = row (aX m c) (aS m c) (trow T r) := funext fun e => lgIn_at m c T hT r e

/-- The block of gates. -/
theorem grow_eq : grow (gtIn m c T) = gat (aG m c) := funext fun e => gtIn_at m c T hT e

/-- A block's mask. -/
theorem mkOf_at : mkOf m c T (ix2 r e) = allMask (aX m c) (aS m c) (aG m c) (ix2 (trow T r) e) := by
  unfold mkOf
  rw [mask_at, lrow_eq m c T hT, grow_eq m c T hT, allMask_at]

/-- A block's softmax. -/
theorem rwOf_at : rwOf m c T (ix2 r e) = allW (aX m c) (aS m c) (aG m c) (ix2 (trow T r) e) := by
  unfold rwOf
  rw [weight_at, lrow_eq m c T hT, grow_eq m c T hT, allW_at]

/-- A block's gated logits. -/
theorem preOf_at : preOf m c T (ix2 r e) = rPre (rLogits (aX m c) (aS m c)) (aG m c) (ix2 (trow T r) e) := by
  unfold preOf
  rw [pay13_at, lrow_eq m c T hT, grow_eq m c T hT, rPre_at]
  rfl

/-- An expert's masked output on a block. -/
theorem fuo_at : k0_pay28 (F := Ideal) (BitVec.ofNat 32 (e.val + 1)) (oOf m c T e.val) (mkOf m c T) (ix2 r d)
    = allFuo (aX m c) (aS m c) (aG m c) (aW1 m c) (aW2 m c) (ix3 (trow T r) e d) := by
  rw [pay28_at, mkOf_at m c T hT, oOf_at m c T hT, allFuo_at, allMask_at]
  rfl

/-- One expert's share of the weighted sum. -/
def share (t : Fin 2048) (d : Fin 1024) (e : Fin 8) : EReal :=
  allW (aX m c) (aS m c) (aG m c) (ix2 t e) * allFuo (aX m c) (aS m c) (aG m c) (aW1 m c) (aW2 m c) (ix3 t e d)

omit hT

/-- The running sum's step at an expert. -/
theorem finOf_step (s : ℕ) (h : s < 8) : finOf m c T (s + 1)
    = k0_pay7 (k0_pay27 (BitVec.ofNat 32 (s + 1)) (rwOf m c T)) (k0_pay28 (BitVec.ofNat 32 (s + 1)) (oOf m c T s) (mkOf m c T)) (finOf m c T s) := by
  rw [finOf, if_pos h]

/-- After the experts the running sum stays. -/
theorem finOf_hold (s : ℕ) (h : ¬ s < 8) : finOf m c T (s + 1) = finOf m c T s := by
  rw [finOf, if_neg h]

include hT

/-- The running sum over the first experts. -/
theorem finOf_at (s : ℕ) (hs : s ≤ 8) :
    finOf m c T s (ix2 r d) = ∑ i ∈ Finset.range s, if h : i < 8 then share m c (trow T r) d ⟨i, h⟩ else 0 := by
  induction s with
  | zero => exact pay4_at r d
  | succ s ih =>
    have h8 : s < 8 := hs
    rw [Finset.sum_range_succ, ← ih (by omega), dif_pos h8, finOf_step m c T s h8, pay7_at]
    have h1 := pay27_at r (rwOf m c T) ⟨s, h8⟩
    have h2 := fuo_at m c T hT r d ⟨s, h8⟩
    unfold share
    rw [← rwOf_at m c T hT]
    exact congrArg₂ (fun a b => finOf m c T s (ix2 r d) + a * b) h1 h2

/-- The running sum at the end of a block. -/
theorem finOf_end : finOf m c T 11 (ix2 r d) = allFin (aX m c) (aS m c) (aG m c) (aW1 m c) (aW2 m c) (ix2 (trow T r) d) := by
  rw [finOf_hold m c T 10 (by norm_num), finOf_hold m c T 9 (by norm_num), finOf_hold m c T 8 (by norm_num), finOf_at m c T hT r d 8 le_rfl, Finset.sum_range, allFin_at]
  refine Finset.sum_congr rfl fun e _ => ?_
  rw [dif_pos e.isLt]
  show share m c (trow T r) d e = _
  unfold share
  rw [allW_at, allFuo_at]

/-- What is written back of the masked outputs. -/
theorem outOf_at (j : Fin 4) (z : Fin 256) (hz : 256 * j.val + z.val < 1024) :
    outOf m c T j.val (ix3 r e z) = allFuo (aX m c) (aS m c) (aG m c) (aW1 m c) (aW2 m c) (ix3 (trow T r) e ⟨256 * j.val + z.val, hz⟩) := by
  rw [← fuo_at m c T hT]
  unfold outOf
  rw [pay11_at]
  exact chunk_at r j _ _ _ z hz

end Cert.KernelIdeal.Val
-- ==== Proof.V.End.lean ====
module

public import proofs.«01_k».proof.Proof.V.Arr
public import Idealize.ShloMosaic.Lib.Pipeline.ArrRel

@[expose] public section

set_option maxRecDepth 16384

noncomputable section

namespace Cert.KernelIdeal.Val

open Cert.KernelIdeal Cert.KernelIdeal.Gen Cert.KernelIdeal.Hand Cert.Spec Cert.ReferenceIdeal.Lay
open Idealize.ShloMosaic Idealize.ShloMosaic.TcCoe Idealize.SL.Sem
open Idealize.ShloMosaic.Pipeline (Dat)

/-- An index of rank two by its coordinates. -/
theorem two {a b : ℕ} (y : (⟨2, ![a, b]⟩ : Shape).Idx) : ∃ (i : Fin a) (j : Fin b), y = ix2 i j :=
  ⟨y 0, y 1, by funext t; match t with
    | ⟨0, _⟩ => rfl
    | ⟨1, _⟩ => rfl⟩

/-- An index of rank three by its coordinates. -/
theorem three {a b c : ℕ} (y : (⟨3, ![a, b, c]⟩ : Shape).Idx) : ∃ (i : Fin a) (j : Fin b) (k : Fin c), y = ix3 i j k :=
  ⟨y 0, y 1, y 2, by funext t; match t with
    | ⟨0, _⟩ => rfl
    | ⟨1, _⟩ => rfl
    | ⟨2, _⟩ => rfl⟩

variable (m : (ℓ : Loc nD τ sig) → Buf (Elt Ideal) ℓ) (c : Dev nD)
variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

/-- The mask array at the end. -/
theorem arr8 : ((rdat m c).withAfter after).arrAt 8 cfg0.N = allMask (aX m c) (aS m c) (aG m c) := by
  refine Dat.arrAt_eq_of_covers _ 8 _ (by decide +kernel) fun t hf y => ?_
  obtain ⟨Y, -, hX⟩ := hL 8 t hf
  have hX' : after 8 t = mkOf m c (t.val / 12) := hX
  have hT := (idx t).2.2.2.2.2.2.2.2.2
  blk_simp
  rw [Pipeline.RDat.withAfter_after, hX']
  obtain ⟨r, e, rfl⟩ := two (a := 512) (b := 8) y
  rw [mkOf_at m c _ hT]
  unfold trow
  blk_ext [idx t]

/-- The gated logits' array at the end. -/
theorem arr7 : ((rdat m c).withAfter after).arrAt 7 cfg0.N = rPre (rLogits (aX m c) (aS m c)) (aG m c) := by
  refine Dat.arrAt_eq_of_covers _ 7 _ (by decide +kernel) fun t hf y => ?_
  obtain ⟨Y, -, hX⟩ := hL 7 t hf
  have hX' : after 7 t = preOf m c (t.val / 12) := hX
  have hT := (idx t).2.2.2.2.2.2.2.2.2
  blk_simp
  rw [Pipeline.RDat.withAfter_after, hX']
  obtain ⟨r, e, rfl⟩ := two (a := 512) (b := 8) y
  rw [preOf_at m c _ hT]
  unfold trow
  blk_ext [idx t]

/-- The weighted sum's array at the end. -/
theorem arr6 : ((rdat m c).withAfter after).arrAt 6 cfg0.N = allFin (aX m c) (aS m c) (aG m c) (aW1 m c) (aW2 m c) := by
  refine Dat.arrAt_eq_of_covers _ 6 _ (by decide +kernel) fun t hf y => ?_
  obtain ⟨Y, -, hX⟩ := hL 6 t hf
  have hX' : after 6 t = finOf m c (t.val / 12) 11 := by rw [← fl6 t hf]; exact hX
  have hT := (idx t).2.2.2.2.2.2.2.2.2
  blk_simp
  rw [Pipeline.RDat.withAfter_after, hX']
  obtain ⟨r, e, rfl⟩ := two (a := 512) (b := 1024) y
  rw [finOf_end m c _ hT]
  unfold trow
  blk_ext [idx t]

/-- The masked outputs' array at the end. -/
theorem arr5 : ((rdat m c).withAfter after).arrAt 5 cfg0.N = allFuo (aX m c) (aS m c) (aG m c) (aW1 m c) (aW2 m c) := by
  refine Dat.arrAt_eq_of_covers _ 5 _ (by decide +kernel) fun t hf y => ?_
  obtain ⟨Y, -, hX⟩ := hL 5 t hf
  have h8 := fl5 t hf
  have hX' : after 5 t = outOf m c (t.val / 12) (t.val % 12 - 8) := hX h8
  have hT := (idx t).2.2.2.2.2.2.2.2.2
  blk_simp
  rw [Pipeline.RDat.withAfter_after, hX']
  obtain ⟨r, e, z, rfl⟩ := three (a := 512) (b := 8) (c := 256) y
  have hj : t.val % 12 - 8 < 4 := by omega
  rw [outOf_at m c _ hT r e ⟨t.val % 12 - 8, hj⟩ z (by show 256 * (t.val % 12 - 8) + z.val < 1024; omega)]
  unfold trow
  blk_ext [idx t]

end Cert.KernelIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Data
public import proofs.«01_k».proof.Proof.KB.Data
public import proofs.«01_k».proof.Proof.V.End
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every run of the kernel ends with its arguments unchanged and every counter at zero. -/
theorem kernel_frame : Cert.quiescent_Kernel (hKernel := Cert.Kernel.Gen.facts) := fun m ρ _ =>
  (θ_run _ _ _).mono (fun _ h => h.1) (Cert.Kernel.Hand.frame_main (F := Bits) m ρ)
/-- The same of its reading over the extended reals. -/
theorem kernelIdeal_frame : Cert.quiescent_KernelIdeal (hKernelIdeal := Cert.KernelIdeal.Gen.facts) := fun m ρ _ =>
  (θ_run _ _ _).mono (fun _ h => h.1) (Cert.KernelIdeal.Hand.frame_main (F := Ideal) m ρ)
/-- Every run of the reference ends with its arguments unchanged and every counter at zero. -/
theorem reference_frame : Cert.quiescent_ReferenceIdeal (hReferenceIdeal := Cert.ReferenceIdeal.Gen.facts) := by
  intro m ρ _
  refine (θ_run _ _ _).mono (fun r h => ⟨fun c => (h c).2.2.2.2, funext fun s => ?_⟩) (Cert.ReferenceIdeal.Value.run (F := Ideal) m ρ)
  obtain ⟨t, s⟩ := s
  rcases s with s | s <;> exact s.elim0

open Cert.ReferenceIdeal.Lay Cert.KernelIdeal.Val in
/-- From equal arguments the kernel's and the reference's readings over the extended reals end with the same four results. -/
theorem values : Cert.algebraic_KernelIdeal_ReferenceIdeal (hKernelIdeal := Cert.KernelIdeal.Gen.facts) (hReferenceIdeal := Cert.ReferenceIdeal.Gen.facts) := by
  intro m g m' g' _ hagree
  refine ⟨fun c => allFin (aX m c) (aS m c) (aG m c) (aW1 m c) (aW2 m c), fun c => allFuo (aX m c) (aS m c) (aG m c) (aW1 m c) (aW2 m c),
    fun c => rPre (rLogits (aX m c) (aS m c)) (aG m c), fun c => allMask (aX m c) (aS m c) (aG m c), ?_, ?_⟩
  · refine (θ_run _ _ _).mono (fun r h c => ?_) (Cert.KernelIdeal.Hand.frame_main (F := Ideal) m g)
    obtain ⟨after, hL, hA⟩ := Pipeline.RDat.FramePost.exists_exact h.2 c
    exact ⟨(hA 6).trans (arr6 m c after hL), (hA 5).trans (arr5 m c after hL), (hA 7).trans (arr7 m c after hL),
      (hA 8).trans (arr8 m c after hL), h.1.1 c⟩
  · refine (θ_run _ _ _).mono (fun r h c => ?_) (Cert.ReferenceIdeal.Value.run (F := Ideal) m' g')
    obtain ⟨h0, h1, h2, h3, hargs⟩ := h c
    obtain ⟨e0, e1, e2, e3, e4⟩ := hagree c
    refine ⟨h0.trans ?_, h1.trans ?_, h2.trans ?_, h3.trans ?_, hargs⟩
    · rw [res0, e0, e1, e2, e3, e4]
    · rw [res1, e0, e1, e2, e3, e4]
    · rw [e0, e1, e2]
      rfl
    · rw [res3, e0, e1, e2]

/-- The certificate's claim: the three frames, that the reading over the extended reals is of the same kernel, and that its four results
    are the reference's. -/
theorem claim : Cert.Claim := ⟨Cert.Kernel.Gen.facts, Cert.KernelIdeal.Gen.facts, Cert.ReferenceIdeal.Gen.facts,
  kernel_frame, kernelIdeal_frame, reference_frame, trivial, values⟩

end Cert.Proof

end
